-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_v4) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S4096x128 : Shape := ⟨2, ![4096, 128]⟩
abbrev S4096x100 : Shape := ⟨2, ![4096, 100]⟩
abbrev S100x10 : Shape := ⟨2, ![100, 10]⟩
abbrev S_ : Shape := ⟨0, ![]⟩

class Facts : Prop where
  bcast_S_S4096x100 : S_.BroadcastsInDim S4096x100 (![] : Fin 0 → Fin S4096x100.rank)
  reducesTo_S4096x100_S_d0_1 : S4096x100.ReducesTo [0, 1] S_
  h_S_ : 0 < S_.numel

variable [Facts]

def fn {F : FTy → Type} [FloatOps F] (main_arg0 : FVec F S4096x128 .f32) (main_arg1 : IVec S4096x100 32) (main_arg2 : FVec F S100x10 .f32) : IVec S_ 1 :=
  let main_c : IVec S_ 32 := constantI S_ 32 0#32
  let main_v0 : IVec S4096x100 32 := broadcastInDim S4096x100 ![] bcast_S_S4096x100 main_c
  let main_v1 : IVec S4096x100 1 := cmpi .sge main_arg1 main_v0
  let main_c_0 : IVec S_ 32 := constantI S_ 32 100#32
  let main_v2 : IVec S4096x100 32 := broadcastInDim S4096x100 ![] bcast_S_S4096x100 main_c_0
  let main_v3 : IVec S4096x100 1 := cmpi .slt main_arg1 main_v2
  let main_v4 : IVec S4096x100 1 := andi main_v1 main_v3
  let main_c_1 : IVec S_ 1 := constantI S_ 1 1#1
  let main_v5 : IVec S_ 1 := (fun x v => Host.reduce IntOp.andi x v reducesTo_S4096x100_S_d0_1 h_S_) main_v4 main_c_1
  main_v5
-- ==== Kernel.lean ====
abbrev S4096x128 : Shape := ⟨2, ![4096, 128]⟩
abbrev S4096x100 : Shape := ⟨2, ![4096, 100]⟩
abbrev S100x10 : Shape := ⟨2, ![100, 10]⟩
abbrev S100x4096 : Shape := ⟨2, ![100, 4096]⟩
abbrev S10x100 : Shape := ⟨2, ![10, 100]⟩
abbrev S1000 : Shape := ⟨1, ![1000]⟩
abbrev S10x100x4096 : Shape := ⟨3, ![10, 100, 4096]⟩
abbrev S8x4096 : Shape := ⟨2, ![8, 4096]⟩
abbrev S_ : Shape := ⟨0, ![]⟩
abbrev S16 : Shape := ⟨1, ![16]⟩
abbrev S1x16 : Shape := ⟨2, ![1, 16]⟩
abbrev S1x8x4096 : Shape := ⟨3, ![1, 8, 4096]⟩
abbrev S4x4096 : Shape := ⟨2, ![4, 4096]⟩
abbrev S1x4x4096 : Shape := ⟨3, ![1, 4, 4096]⟩
abbrev S4096x100x10 : Shape := ⟨3, ![4096, 100, 10]⟩

abbrev nBuf : Table → Nat
  | .hbm => 9
  | .local .tc .vmem => 2
  | .local .scVector .vmem => 4
  | _ => 0

abbrev bufTy : (tb : Table) → Fin (nBuf tb) → BufTy
  | .hbm, ⟨0, _⟩ => ⟨S4096x128, .f32⟩
  | .hbm, ⟨1, _⟩ => ⟨S4096x100, .i32⟩
  | .hbm, ⟨2, _⟩ => ⟨S100x10, .f32⟩
  | .hbm, ⟨3, _⟩ => ⟨S4096x128, .f32⟩
  | .hbm, ⟨4, _⟩ => ⟨S100x4096, .i32⟩
  | .hbm, ⟨5, _⟩ => ⟨S10x100, .f32⟩
  | .hbm, ⟨6, _⟩ => ⟨S1000, .f32⟩
  | .hbm, ⟨7, _⟩ => ⟨S10x100x4096, .f32⟩
  | .hbm, ⟨8, _⟩ => ⟨S4096x100x10, .f32⟩
  | .local .tc .vmem, ⟨0, _⟩ => ⟨S4096x128, .f32⟩
  | .local .tc .vmem, ⟨1, _⟩ => ⟨S4096x128, .f32⟩
  | .local .scVector .vmem, ⟨0, _⟩ => ⟨S1000, .f32⟩
  | .local .scVector .vmem, ⟨1, _⟩ => ⟨S8x4096, .i32⟩
  | .local .scVector .vmem, ⟨2, _⟩ => ⟨S8x4096, .f32⟩
  | .local .scVector .vmem, ⟨3, _⟩ => ⟨S8x4096, .f32⟩
  | _, _ => ⟨S4096x128, .f32⟩

abbrev bufScoped : (cs : CoreSpace) → Fin (nBuf (.local .tc cs)) → Bool
  | .vmem, ⟨0, _⟩ => true
  | .vmem, ⟨1, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 12 → Bool
  | ⟨0, _⟩ => true
  | ⟨1, _⟩ => true
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | _ => false

abbrev sig : RefSig :=
  ofTables nBuf rfl bufTy 4 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v1_scv : Ref sig .scVector := ⟨.hbm, 4, rfl⟩
abbrev main_v3_scv : Ref sig .scVector := ⟨.hbm, 6, rfl⟩
abbrev main_v4_scv : Ref sig .scVector := ⟨.hbm, 7, rfl⟩
abbrev cc0_stg0_0 : Ref sig .tc := ⟨.vmem, 0, rfl⟩
abbrev cc0_stg1_0 : Ref sig .tc := ⟨.vmem, 1, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc0_sem0_0 : DmaSem sig := 0
abbrev cc0_sem1_0 : DmaSem sig := 1
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := .none

abbrev stage0_0 : Fin 1 → Memref sig .tc .vmem S4096x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev grid1 : Pipeline.Grid := ⟨2, ![2, 16], ![false, false]⟩

def k1_mult1 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c12_i32_4 : BitVec 32 := 12#32
  let c0_i32_5 : BitVec 32 := 0#32
  let v19 : BitVec 1 := Scalar.cmpi .eq c12_i32_4 c0_i32_5
  let c1_i32_6 : BitVec 32 := 1#32
  let v20 : BitVec 32 := Scalar.select v19 c1_i32_6 c12_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c8_i32 : BitVec 32 := 8#32
  let v29 : BitVec 32 := Scalar.muli v28 c8_i32
  v29
def k1_off1 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c12_i32_4 : BitVec 32 := 12#32
  let c0_i32_5 : BitVec 32 := 0#32
  let v19 : BitVec 1 := Scalar.cmpi .eq c12_i32_4 c0_i32_5
  let c1_i32_6 : BitVec 32 := 1#32
  let v20 : BitVec 32 := Scalar.select v19 c1_i32_6 c12_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c8_i32 : BitVec 32 := 8#32
  let v29 : BitVec 32 := Scalar.muli v28 c8_i32
  let v30 : BitVec 32 := v29
  let c0_i32_65_r1 : BitVec 32 := 0#32
  ![v30.toNat, 0]
@[reducible] def k1_t1_loop : Scf.Loop 32 :=
  let c0_i32_10 : BitVec 32 := 0#32
  let c256_i32 : BitVec 32 := 256#32
  let v31 : BitVec 32 := Scalar.addi c0_i32_10 c256_i32
  let c1_i32_11 : BitVec 32 := 1#32
  ⟨c0_i32_10, v31, c1_i32_11⟩
def k1_off2 (k1_t1 : Fin k1_t1_loop.trips) : Fin 2 → Nat :=
  let c0_i32_67 : BitVec 32 := 0#32
  let v129 : Index := Scalar.indexCast c0_i32_67
  let c0_i32_66 : BitVec 32 := 0#32
  let c0_i32_10 : BitVec 32 := 0#32
  let c1_i32_11 : BitVec 32 := 1#32
  let arg11 : BitVec 32 := Scf.iv c0_i32_10 c1_i32_11 k1_t1
  let c1_i32_65 : BitVec 32 := 1#32
  let v126 : BitVec 32 := Scalar.muli arg11 c1_i32_65
  let v127 : BitVec 32 := Scalar.addi c0_i32_66 v126
  let c16_i32 : BitVec 32 := 16#32
  let v128 : BitVec 32 := Scalar.muli v127 c16_i32
  let v130 : Index := Scalar.indexCast v128
  ![0, v130.toNat]

def k1_chk1 (v134 : IVec S16 32) : Prop :=
  (∀ a x, ((![v134] : Fin 1 → IVec S16 32) a x).toNat < S1000.size a)
theorem k1_idx1_inb : ∀ (v134 : IVec S16 32) (k1_hw1 : k1_chk1 v134), ∀ a x, ((![v134] : Fin 1 → IVec S16 32) a x).toNat < S1000.size a := fun v134 k1_hw1 => k1_hw1
def k1_off3 (k1_t1 : Fin k1_t1_loop.trips) : Fin 2 → Nat :=
  let c0_i32_69 : BitVec 32 := 0#32
  let v137 : Index := Scalar.indexCast c0_i32_69
  let c0_i32_66 : BitVec 32 := 0#32
  let c0_i32_10 : BitVec 32 := 0#32
  let c1_i32_11 : BitVec 32 := 1#32
  let arg11 : BitVec 32 := Scf.iv c0_i32_10 c1_i32_11 k1_t1
  let c1_i32_65 : BitVec 32 := 1#32
  let v126 : BitVec 32 := Scalar.muli arg11 c1_i32_65
  let v127 : BitVec 32 := Scalar.addi c0_i32_66 v126
  let c16_i32_68 : BitVec 32 := 16#32
  let v136 : BitVec 32 := Scalar.muli v127 c16_i32_68
  let v138 : Index := Scalar.indexCast v136
  ![0, v138.toNat]
def k1_off4 (k1_t1 : Fin k1_t1_loop.trips) : Fin 2 → Nat :=
  let c1_i32_71 : BitVec 32 := 1#32
  let v141 : Index := Scalar.indexCast c1_i32_71
  let c0_i32_66 : BitVec 32 := 0#32
  let c0_i32_10 : BitVec 32 := 0#32
  let c1_i32_11 : BitVec 32 := 1#32
  let arg11 : BitVec 32 := Scf.iv c0_i32_10 c1_i32_11 k1_t1
  let c1_i32_65 : BitVec 32 := 1#32
  let v126 : BitVec 32 := Scalar.muli arg11 c1_i32_65
  let v127 : BitVec 32 := Scalar.addi c0_i32_66 v126
  let c16_i32_70 : BitVec 32 := 16#32
  let v140 : BitVec 32 := Scalar.muli v127 c16_i32_70
  let v142 : Index := Scalar.indexCast v140
  ![1, v142.toNat]

def k1_chk2 (v146 : IVec S16 32) : Prop :=
  (∀ a x, ((![v146] : Fin 1 → IVec S16 32) a x).toNat < S1000.size a)
theorem k1_idx2_inb : ∀ (v146 : IVec S16 32) (k1_hw2 : k1_chk2 v146), ∀ a x, ((![v146] : Fin 1 → IVec S16 32) a x).toNat < S1000.size a := fun v146 k1_hw2 => k1_hw2
def k1_off5 (k1_t1 : Fin k1_t1_loop.trips) : Fin 2 → Nat :=
  let c1_i32_74 : BitVec 32 := 1#32
  let v149 : Index := Scalar.indexCast c1_i32_74
  let c0_i32_66 : BitVec 32 := 0#32
  let c0_i32_10 : BitVec 32 := 0#32
  let c1_i32_11 : BitVec 32 := 1#32
  let arg11 : BitVec 32 := Scf.iv c0_i32_10 c1_i32_11 k1_t1
  let c1_i32_65 : BitVec 32 := 1#32
  let v126 : BitVec 32 := Scalar.muli arg11 c1_i32_65
  let v127 : BitVec 32 := Scalar.addi c0_i32_66 v126
  let c16_i32_73 : BitVec 32 := 16#32
  let v148 : BitVec 32 := Scalar.muli v127 c16_i32_73
  let v150 : Index := Scalar.indexCast v148
  ![1, v150.toNat]
def k1_off6 (k1_t1 : Fin k1_t1_loop.trips) : Fin 2 → Nat :=
  let c2_i32_76 : BitVec 32 := 2#32
  let v153 : Index := Scalar.indexCast c2_i32_76
  let c0_i32_66 : BitVec 32 := 0#32
  let c0_i32_10 : BitVec 32 := 0#32
  let c1_i32_11 : BitVec 32 := 1#32
  let arg11 : BitVec 32 := Scf.iv c0_i32_10 c1_i32_11 k1_t1
  let c1_i32_65 : BitVec 32 := 1#32
  let v126 : BitVec 32 := Scalar.muli arg11 c1_i32_65
  let v127 : BitVec 32 := Scalar.addi c0_i32_66 v126
  let c16_i32_75 : BitVec 32 := 16#32
  let v152 : BitVec 32 := Scalar.muli v127 c16_i32_75
  let v154 : Index := Scalar.indexCast v152
  ![2, v154.toNat]

def k1_chk3 (v158 : IVec S16 32) : Prop :=
  (∀ a x, ((![v158] : Fin 1 → IVec S16 32) a x).toNat < S1000.size a)
theorem k1_idx3_inb : ∀ (v158 : IVec S16 32) (k1_hw3 : k1_chk3 v158), ∀ a x, ((![v158] : Fin 1 → IVec S16 32) a x).toNat < S1000.size a := fun v158 k1_hw3 => k1_hw3
def k1_off7 (k1_t1 : Fin k1_t1_loop.trips) : Fin 2 → Nat :=
  let c2_i32_79 : BitVec 32 := 2#32
  let v161 : Index := Scalar.indexCast c2_i32_79
  let c0_i32_66 : BitVec 32 := 0#32
  let c0_i32_10 : BitVec 32 := 0#32
  let c1_i32_11 : BitVec 32 := 1#32
  let arg11 : BitVec 32 := Scf.iv c0_i32_10 c1_i32_11 k1_t1
  let c1_i32_65 : BitVec 32 := 1#32
  let v126 : BitVec 32 := Scalar.muli arg11 c1_i32_65
  let v127 : BitVec 32 := Scalar.addi c0_i32_66 v126
  let c16_i32_78 : BitVec 32 := 16#32
  let v160 : BitVec 32 := Scalar.muli v127 c16_i32_78
  let v162 : Index := Scalar.indexCast v160
  ![2, v162.toNat]
def k1_off8 (k1_t1 : Fin k1_t1_loop.trips) : Fin 2 → Nat :=
  let c3_i32 : BitVec 32 := 3#32
  let v165 : Index := Scalar.indexCast c3_i32
  let c0_i32_66 : BitVec 32 := 0#32
  let c0_i32_10 : BitVec 32 := 0#32
  let c1_i32_11 : BitVec 32 := 1#32
  let arg11 : BitVec 32 := Scf.iv c0_i32_10 c1_i32_11 k1_t1
  let c1_i32_65 : BitVec 32 := 1#32
  let v126 : BitVec 32 := Scalar.muli arg11 c1_i32_65
  let v127 : BitVec 32 := Scalar.addi c0_i32_66 v126
  let c16_i32_80 : BitVec 32 := 16#32
  let v164 : BitVec 32 := Scalar.muli v127 c16_i32_80
  let v166 : Index := Scalar.indexCast v164
  ![3, v166.toNat]

def k1_chk4 (v170 : IVec S16 32) : Prop :=
  (∀ a x, ((![v170] : Fin 1 → IVec S16 32) a x).toNat < S1000.size a)
theorem k1_idx4_inb : ∀ (v170 : IVec S16 32) (k1_hw4 : k1_chk4 v170), ∀ a x, ((![v170] : Fin 1 → IVec S16 32) a x).toNat < S1000.size a := fun v170 k1_hw4 => k1_hw4
def k1_off9 (k1_t1 : Fin k1_t1_loop.trips) : Fin 2 → Nat :=
  let c3_i32_83 : BitVec 32 := 3#32
  let v173 : Index := Scalar.indexCast c3_i32_83
  let c0_i32_66 : BitVec 32 := 0#32
  let c0_i32_10 : BitVec 32 := 0#32
  let c1_i32_11 : BitVec 32 := 1#32
  let arg11 : BitVec 32 := Scf.iv c0_i32_10 c1_i32_11 k1_t1
  let c1_i32_65 : BitVec 32 := 1#32
  let v126 : BitVec 32 := Scalar.muli arg11 c1_i32_65
  let v127 : BitVec 32 := Scalar.addi c0_i32_66 v126
  let c16_i32_82 : BitVec 32 := 16#32
  let v172 : BitVec 32 := Scalar.muli v127 c16_i32_82
  let v174 : Index := Scalar.indexCast v172
  ![3, v174.toNat]
def k1_off10 (k1_t1 : Fin k1_t1_loop.trips) : Fin 2 → Nat :=
  let c4_i32 : BitVec 32 := 4#32
  let v177 : Index := Scalar.indexCast c4_i32
  let c0_i32_66 : BitVec 32 := 0#32
  let c0_i32_10 : BitVec 32 := 0#32
  let c1_i32_11 : BitVec 32 := 1#32
  let arg11 : BitVec 32 := Scf.iv c0_i32_10 c1_i32_11 k1_t1
  let c1_i32_65 : BitVec 32 := 1#32
  let v126 : BitVec 32 := Scalar.muli arg11 c1_i32_65
  let v127 : BitVec 32 := Scalar.addi c0_i32_66 v126
  let c16_i32_84 : BitVec 32 := 16#32
  let v176 : BitVec 32 := Scalar.muli v127 c16_i32_84
  let v178 : Index := Scalar.indexCast v176
  ![4, v178.toNat]

def k1_chk5 (v182 : IVec S16 32) : Prop :=
  (∀ a x, ((![v182] : Fin 1 → IVec S16 32) a x).toNat < S1000.size a)
theorem k1_idx5_inb : ∀ (v182 : IVec S16 32) (k1_hw5 : k1_chk5 v182), ∀ a x, ((![v182] : Fin 1 → IVec S16 32) a x).toNat < S1000.size a := fun v182 k1_hw5 => k1_hw5
def k1_off11 (k1_t1 : Fin k1_t1_loop.trips) : Fin 2 → Nat :=
  let c4_i32_87 : BitVec 32 := 4#32
  let v185 : Index := Scalar.indexCast c4_i32_87
  let c0_i32_66 : BitVec 32 := 0#32
  let c0_i32_10 : BitVec 32 := 0#32
  let c1_i32_11 : BitVec 32 := 1#32
  let arg11 : BitVec 32 := Scf.iv c0_i32_10 c1_i32_11 k1_t1
  let c1_i32_65 : BitVec 32 := 1#32
  let v126 : BitVec 32 := Scalar.muli arg11 c1_i32_65
  let v127 : BitVec 32 := Scalar.addi c0_i32_66 v126
  let c16_i32_86 : BitVec 32 := 16#32
  let v184 : BitVec 32 := Scalar.muli v127 c16_i32_86
  let v186 : Index := Scalar.indexCast v184
  ![4, v186.toNat]
def k1_off12 (k1_t1 : Fin k1_t1_loop.trips) : Fin 2 → Nat :=
  let c5_i32 : BitVec 32 := 5#32
  let v189 : Index := Scalar.indexCast c5_i32
  let c0_i32_66 : BitVec 32 := 0#32
  let c0_i32_10 : BitVec 32 := 0#32
  let c1_i32_11 : BitVec 32 := 1#32
  let arg11 : BitVec 32 := Scf.iv c0_i32_10 c1_i32_11 k1_t1
  let c1_i32_65 : BitVec 32 := 1#32
  let v126 : BitVec 32 := Scalar.muli arg11 c1_i32_65
  let v127 : BitVec 32 := Scalar.addi c0_i32_66 v126
  let c16_i32_88 : BitVec 32 := 16#32
  let v188 : BitVec 32 := Scalar.muli v127 c16_i32_88
  let v190 : Index := Scalar.indexCast v188
  ![5, v190.toNat]

def k1_chk6 (v194 : IVec S16 32) : Prop :=
  (∀ a x, ((![v194] : Fin 1 → IVec S16 32) a x).toNat < S1000.size a)
theorem k1_idx6_inb : ∀ (v194 : IVec S16 32) (k1_hw6 : k1_chk6 v194), ∀ a x, ((![v194] : Fin 1 → IVec S16 32) a x).toNat < S1000.size a := fun v194 k1_hw6 => k1_hw6
def k1_off13 (k1_t1 : Fin k1_t1_loop.trips) : Fin 2 → Nat :=
  let c5_i32_91 : BitVec 32 := 5#32
  let v197 : Index := Scalar.indexCast c5_i32_91
  let c0_i32_66 : BitVec 32 := 0#32
  let c0_i32_10 : BitVec 32 := 0#32
  let c1_i32_11 : BitVec 32 := 1#32
  let arg11 : BitVec 32 := Scf.iv c0_i32_10 c1_i32_11 k1_t1
  let c1_i32_65 : BitVec 32 := 1#32
  let v126 : BitVec 32 := Scalar.muli arg11 c1_i32_65
  let v127 : BitVec 32 := Scalar.addi c0_i32_66 v126
  let c16_i32_90 : BitVec 32 := 16#32
  let v196 : BitVec 32 := Scalar.muli v127 c16_i32_90
  let v198 : Index := Scalar.indexCast v196
  ![5, v198.toNat]
def k1_off14 (k1_t1 : Fin k1_t1_loop.trips) : Fin 2 → Nat :=
  let c6_i32 : BitVec 32 := 6#32
  let v201 : Index := Scalar.indexCast c6_i32
  let c0_i32_66 : BitVec 32 := 0#32
  let c0_i32_10 : BitVec 32 := 0#32
  let c1_i32_11 : BitVec 32 := 1#32
  let arg11 : BitVec 32 := Scf.iv c0_i32_10 c1_i32_11 k1_t1
  let c1_i32_65 : BitVec 32 := 1#32
  let v126 : BitVec 32 := Scalar.muli arg11 c1_i32_65
  let v127 : BitVec 32 := Scalar.addi c0_i32_66 v126
  let c16_i32_92 : BitVec 32 := 16#32
  let v200 : BitVec 32 := Scalar.muli v127 c16_i32_92
  let v202 : Index := Scalar.indexCast v200
  ![6, v202.toNat]

def k1_chk7 (v206 : IVec S16 32) : Prop :=
  (∀ a x, ((![v206] : Fin 1 → IVec S16 32) a x).toNat < S1000.size a)
theorem k1_idx7_inb : ∀ (v206 : IVec S16 32) (k1_hw7 : k1_chk7 v206), ∀ a x, ((![v206] : Fin 1 → IVec S16 32) a x).toNat < S1000.size a := fun v206 k1_hw7 => k1_hw7
def k1_off15 (k1_t1 : Fin k1_t1_loop.trips) : Fin 2 → Nat :=
  let c6_i32_95 : BitVec 32 := 6#32
  let v209 : Index := Scalar.indexCast c6_i32_95
  let c0_i32_66 : BitVec 32 := 0#32
  let c0_i32_10 : BitVec 32 := 0#32
  let c1_i32_11 : BitVec 32 := 1#32
  let arg11 : BitVec 32 := Scf.iv c0_i32_10 c1_i32_11 k1_t1
  let c1_i32_65 : BitVec 32 := 1#32
  let v126 : BitVec 32 := Scalar.muli arg11 c1_i32_65
  let v127 : BitVec 32 := Scalar.addi c0_i32_66 v126
  let c16_i32_94 : BitVec 32 := 16#32
  let v208 : BitVec 32 := Scalar.muli v127 c16_i32_94
  let v210 : Index := Scalar.indexCast v208
  ![6, v210.toNat]
def k1_off16 (k1_t1 : Fin k1_t1_loop.trips) : Fin 2 → Nat :=
  let c7_i32 : BitVec 32 := 7#32
  let v213 : Index := Scalar.indexCast c7_i32
  let c0_i32_66 : BitVec 32 := 0#32
  let c0_i32_10 : BitVec 32 := 0#32
  let c1_i32_11 : BitVec 32 := 1#32
  let arg11 : BitVec 32 := Scf.iv c0_i32_10 c1_i32_11 k1_t1
  let c1_i32_65 : BitVec 32 := 1#32
  let v126 : BitVec 32 := Scalar.muli arg11 c1_i32_65
  let v127 : BitVec 32 := Scalar.addi c0_i32_66 v126
  let c16_i32_96 : BitVec 32 := 16#32
  let v212 : BitVec 32 := Scalar.muli v127 c16_i32_96
  let v214 : Index := Scalar.indexCast v212
  ![7, v214.toNat]

def k1_chk8 (v218 : IVec S16 32) : Prop :=
  (∀ a x, ((![v218] : Fin 1 → IVec S16 32) a x).toNat < S1000.size a)
theorem k1_idx8_inb : ∀ (v218 : IVec S16 32) (k1_hw8 : k1_chk8 v218), ∀ a x, ((![v218] : Fin 1 → IVec S16 32) a x).toNat < S1000.size a := fun v218 k1_hw8 => k1_hw8
def k1_off17 (k1_t1 : Fin k1_t1_loop.trips) : Fin 2 → Nat :=
  let c7_i32_99 : BitVec 32 := 7#32
  let v221 : Index := Scalar.indexCast c7_i32_99
  let c0_i32_66 : BitVec 32 := 0#32
  let c0_i32_10 : BitVec 32 := 0#32
  let c1_i32_11 : BitVec 32 := 1#32
  let arg11 : BitVec 32 := Scf.iv c0_i32_10 c1_i32_11 k1_t1
  let c1_i32_65 : BitVec 32 := 1#32
  let v126 : BitVec 32 := Scalar.muli arg11 c1_i32_65
  let v127 : BitVec 32 := Scalar.addi c0_i32_66 v126
  let c16_i32_98 : BitVec 32 := 16#32
  let v220 : BitVec 32 := Scalar.muli v127 c16_i32_98
  let v222 : Index := Scalar.indexCast v220
  ![7, v222.toNat]
def k1_off18 (i : grid1.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c12_i32 : BitVec 32 := 12#32
  let c0_i32_1 : BitVec 32 := 0#32
  let v8 : BitVec 1 := Scalar.cmpi .sgt c12_i32 c0_i32_1
  let v9 : BitVec 32 := Scalar.extui v8
  let c0_i32_2 : BitVec 32 := 0#32
  let v10 : BitVec 1 := Scalar.cmpi .slt c12_i32 c0_i32_2
  let v11 : BitVec 32 := Scalar.extui v10
  let v12 : BitVec 32 := Scalar.subi v9 v11
  let v13 : BitVec 1 := Scalar.cmpi .ne v7 v12
  let v14 : BitVec 32 := Scalar.remsi v1 c12_i32
  let c0_i32_3 : BitVec 32 := 0#32
  let v15 : BitVec 1 := Scalar.cmpi .ne v14 c0_i32_3
  let v16 : BitVec 1 := Scalar.andi v13 v15
  let v2 : BitVec 32 := Scalar.divsi v1 c12_i32
  let c1_i32 : BitVec 32 := 1#32
  let v17 : BitVec 32 := Scalar.subi v2 c1_i32
  let v18 : BitVec 32 := Scalar.select v16 v17 v2
  let c12_i32_4 : BitVec 32 := 12#32
  let c0_i32_5 : BitVec 32 := 0#32
  let v19 : BitVec 1 := Scalar.cmpi .eq c12_i32_4 c0_i32_5
  let c1_i32_6 : BitVec 32 := 1#32
  let v20 : BitVec 32 := Scalar.select v19 c1_i32_6 c12_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c8_i32 : BitVec 32 := 8#32
  let v29 : BitVec 32 := Scalar.muli v28 c8_i32
  let v30 : BitVec 32 := v29
  let c0_i32_13 : BitVec 32 := 0#32
  ![v18.toNat, v30.toNat, 0]
def k1_mult2 (i : grid1.Coords) : BitVec 32 :=
  let c32_i32 : BitVec 32 := 32#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v36 : BitVec 32 := Scalar.addi c32_i32 v1
  let c12_i32_22 : BitVec 32 := 12#32
  let c0_i32_23 : BitVec 32 := 0#32
  let v54 : BitVec 1 := Scalar.cmpi .eq c12_i32_22 c0_i32_23
  let c1_i32_24 : BitVec 32 := 1#32
  let v55 : BitVec 32 := Scalar.select v54 c1_i32_24 c12_i32_22
  let v56 : BitVec 32 := Scalar.remsi v36 v55
  let c0_i32_26 : BitVec 32 := 0#32
  let v58 : BitVec 1 := Scalar.cmpi .slt v56 c0_i32_26
  let c0_i32_27 : BitVec 32 := 0#32
  let v59 : BitVec 1 := Scalar.cmpi .slt v55 c0_i32_27
  let v60 : BitVec 1 := Scalar.xori v58 v59
  let c0_i32_25 : BitVec 32 := 0#32
  let v57 : BitVec 1 := Scalar.cmpi .ne v56 c0_i32_25
  let v61 : BitVec 1 := Scalar.andi v60 v57
  let v62 : BitVec 32 := Scalar.addi v56 v55
  let v63 : BitVec 32 := Scalar.select v61 v62 v56
  let c8_i32_28 : BitVec 32 := 8#32
  let v64 : BitVec 32 := Scalar.muli v63 c8_i32_28
  v64
def k1_off19 (i : grid1.Coords) (c32_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v36 : BitVec 32 := Scalar.addi c32_i32 v1
  let c12_i32_22 : BitVec 32 := 12#32
  let c0_i32_23 : BitVec 32 := 0#32
  let v54 : BitVec 1 := Scalar.cmpi .eq c12_i32_22 c0_i32_23
  let c1_i32_24 : BitVec 32 := 1#32
  let v55 : BitVec 32 := Scalar.select v54 c1_i32_24 c12_i32_22
  let v56 : BitVec 32 := Scalar.remsi v36 v55
  let c0_i32_26 : BitVec 32 := 0#32
  let v58 : BitVec 1 := Scalar.cmpi .slt v56 c0_i32_26
  let c0_i32_27 : BitVec 32 := 0#32
  let v59 : BitVec 1 := Scalar.cmpi .slt v55 c0_i32_27
  let v60 : BitVec 1 := Scalar.xori v58 v59
  let c0_i32_25 : BitVec 32 := 0#32
  let v57 : BitVec 1 := Scalar.cmpi .ne v56 c0_i32_25
  let v61 : BitVec 1 := Scalar.andi v60 v57
  let v62 : BitVec 32 := Scalar.addi v56 v55
  let v63 : BitVec 32 := Scalar.select v61 v62 v56
  let c8_i32_28 : BitVec 32 := 8#32
  let v64 : BitVec 32 := Scalar.muli v63 c8_i32_28
  let v65 : BitVec 32 := v64
  let c0_i32_65_r2 : BitVec 32 := 0#32
  ![v65.toNat, 0]
@[reducible] def k1_t2_loop : Scf.Loop 32 :=
  let c0_i32_29 : BitVec 32 := 0#32
  let c256_i32_30 : BitVec 32 := 256#32
  let v66 : BitVec 32 := Scalar.addi c0_i32_29 c256_i32_30
  let c1_i32_31 : BitVec 32 := 1#32
  ⟨c0_i32_29, v66, c1_i32_31⟩
def k1_off20 (k1_t2 : Fin k1_t2_loop.trips) : Fin 2 → Nat :=
  let c0_i32_67 : BitVec 32 := 0#32
  let v129 : Index := Scalar.indexCast c0_i32_67
  let c0_i32_66 : BitVec 32 := 0#32
  let c0_i32_29 : BitVec 32 := 0#32
  let c1_i32_31 : BitVec 32 := 1#32
  let arg11 : BitVec 32 := Scf.iv c0_i32_29 c1_i32_31 k1_t2
  let c1_i32_65 : BitVec 32 := 1#32
  let v126 : BitVec 32 := Scalar.muli arg11 c1_i32_65
  let v127 : BitVec 32 := Scalar.addi c0_i32_66 v126
  let c16_i32 : BitVec 32 := 16#32
  let v128 : BitVec 32 := Scalar.muli v127 c16_i32
  let v130 : Index := Scalar.indexCast v128
  ![0, v130.toNat]

def k1_chk9 (v134 : IVec S16 32) : Prop :=
  (∀ a x, ((![v134] : Fin 1 → IVec S16 32) a x).toNat < S1000.size a)
theorem k1_idx9_inb : ∀ (v134 : IVec S16 32) (k1_hw9 : k1_chk9 v134), ∀ a x, ((![v134] : Fin 1 → IVec S16 32) a x).toNat < S1000.size a := fun v134 k1_hw9 => k1_hw9
def k1_off21 (k1_t2 : Fin k1_t2_loop.trips) : Fin 2 → Nat :=
  let c0_i32_69 : BitVec 32 := 0#32
  let v137 : Index := Scalar.indexCast c0_i32_69
  let c0_i32_66 : BitVec 32 := 0#32
  let c0_i32_29 : BitVec 32 := 0#32
  let c1_i32_31 : BitVec 32 := 1#32
  let arg11 : BitVec 32 := Scf.iv c0_i32_29 c1_i32_31 k1_t2
  let c1_i32_65 : BitVec 32 := 1#32
  let v126 : BitVec 32 := Scalar.muli arg11 c1_i32_65
  let v127 : BitVec 32 := Scalar.addi c0_i32_66 v126
  let c16_i32_68 : BitVec 32 := 16#32
  let v136 : BitVec 32 := Scalar.muli v127 c16_i32_68
  let v138 : Index := Scalar.indexCast v136
  ![0, v138.toNat]
def k1_off22 (k1_t2 : Fin k1_t2_loop.trips) : Fin 2 → Nat :=
  let c1_i32_71 : BitVec 32 := 1#32
  let v141 : Index := Scalar.indexCast c1_i32_71
  let c0_i32_66 : BitVec 32 := 0#32
  let c0_i32_29 : BitVec 32 := 0#32
  let c1_i32_31 : BitVec 32 := 1#32
  let arg11 : BitVec 32 := Scf.iv c0_i32_29 c1_i32_31 k1_t2
  let c1_i32_65 : BitVec 32 := 1#32
  let v126 : BitVec 32 := Scalar.muli arg11 c1_i32_65
  let v127 : BitVec 32 := Scalar.addi c0_i32_66 v126
  let c16_i32_70 : BitVec 32 := 16#32
  let v140 : BitVec 32 := Scalar.muli v127 c16_i32_70
  let v142 : Index := Scalar.indexCast v140
  ![1, v142.toNat]

def k1_chk10 (v146 : IVec S16 32) : Prop :=
  (∀ a x, ((![v146] : Fin 1 → IVec S16 32) a x).toNat < S1000.size a)
theorem k1_idx10_inb : ∀ (v146 : IVec S16 32) (k1_hw10 : k1_chk10 v146), ∀ a x, ((![v146] : Fin 1 → IVec S16 32) a x).toNat < S1000.size a := fun v146 k1_hw10 => k1_hw10
def k1_off23 (k1_t2 : Fin k1_t2_loop.trips) : Fin 2 → Nat :=
  let c1_i32_74 : BitVec 32 := 1#32
  let v149 : Index := Scalar.indexCast c1_i32_74
  let c0_i32_66 : BitVec 32 := 0#32
  let c0_i32_29 : BitVec 32 := 0#32
  let c1_i32_31 : BitVec 32 := 1#32
  let arg11 : BitVec 32 := Scf.iv c0_i32_29 c1_i32_31 k1_t2
  let c1_i32_65 : BitVec 32 := 1#32
  let v126 : BitVec 32 := Scalar.muli arg11 c1_i32_65
  let v127 : BitVec 32 := Scalar.addi c0_i32_66 v126
  let c16_i32_73 : BitVec 32 := 16#32
  let v148 : BitVec 32 := Scalar.muli v127 c16_i32_73
  let v150 : Index := Scalar.indexCast v148
  ![1, v150.toNat]
def k1_off24 (k1_t2 : Fin k1_t2_loop.trips) : Fin 2 → Nat :=
  let c2_i32_76 : BitVec 32 := 2#32
  let v153 : Index := Scalar.indexCast c2_i32_76
  let c0_i32_66 : BitVec 32 := 0#32
  let c0_i32_29 : BitVec 32 := 0#32
  let c1_i32_31 : BitVec 32 := 1#32
  let arg11 : BitVec 32 := Scf.iv c0_i32_29 c1_i32_31 k1_t2
  let c1_i32_65 : BitVec 32 := 1#32
  let v126 : BitVec 32 := Scalar.muli arg11 c1_i32_65
  let v127 : BitVec 32 := Scalar.addi c0_i32_66 v126
  let c16_i32_75 : BitVec 32 := 16#32
  let v152 : BitVec 32 := Scalar.muli v127 c16_i32_75
  let v154 : Index := Scalar.indexCast v152
  ![2, v154.toNat]

def k1_chk11 (v158 : IVec S16 32) : Prop :=
  (∀ a x, ((![v158] : Fin 1 → IVec S16 32) a x).toNat < S1000.size a)
theorem k1_idx11_inb : ∀ (v158 : IVec S16 32) (k1_hw11 : k1_chk11 v158), ∀ a x, ((![v158] : Fin 1 → IVec S16 32) a x).toNat < S1000.size a := fun v158 k1_hw11 => k1_hw11
def k1_off25 (k1_t2 : Fin k1_t2_loop.trips) : Fin 2 → Nat :=
  let c2_i32_79 : BitVec 32 := 2#32
  let v161 : Index := Scalar.indexCast c2_i32_79
  let c0_i32_66 : BitVec 32 := 0#32
  let c0_i32_29 : BitVec 32 := 0#32
  let c1_i32_31 : BitVec 32 := 1#32
  let arg11 : BitVec 32 := Scf.iv c0_i32_29 c1_i32_31 k1_t2
  let c1_i32_65 : BitVec 32 := 1#32
  let v126 : BitVec 32 := Scalar.muli arg11 c1_i32_65
  let v127 : BitVec 32 := Scalar.addi c0_i32_66 v126
  let c16_i32_78 : BitVec 32 := 16#32
  let v160 : BitVec 32 := Scalar.muli v127 c16_i32_78
  let v162 : Index := Scalar.indexCast v160
  ![2, v162.toNat]
def k1_off26 (k1_t2 : Fin k1_t2_loop.trips) : Fin 2 → Nat :=
  let c3_i32 : BitVec 32 := 3#32
  let v165 : Index := Scalar.indexCast c3_i32
  let c0_i32_66 : BitVec 32 := 0#32
  let c0_i32_29 : BitVec 32 := 0#32
  let c1_i32_31 : BitVec 32 := 1#32
  let arg11 : BitVec 32 := Scf.iv c0_i32_29 c1_i32_31 k1_t2
  let c1_i32_65 : BitVec 32 := 1#32
  let v126 : BitVec 32 := Scalar.muli arg11 c1_i32_65
  let v127 : BitVec 32 := Scalar.addi c0_i32_66 v126
  let c16_i32_80 : BitVec 32 := 16#32
  let v164 : BitVec 32 := Scalar.muli v127 c16_i32_80
  let v166 : Index := Scalar.indexCast v164
  ![3, v166.toNat]

def k1_chk12 (v170 : IVec S16 32) : Prop :=
  (∀ a x, ((![v170] : Fin 1 → IVec S16 32) a x).toNat < S1000.size a)
theorem k1_idx12_inb : ∀ (v170 : IVec S16 32) (k1_hw12 : k1_chk12 v170), ∀ a x, ((![v170] : Fin 1 → IVec S16 32) a x).toNat < S1000.size a := fun v170 k1_hw12 => k1_hw12
def k1_off27 (k1_t2 : Fin k1_t2_loop.trips) : Fin 2 → Nat :=
  let c3_i32_83 : BitVec 32 := 3#32
  let v173 : Index := Scalar.indexCast c3_i32_83
  let c0_i32_66 : BitVec 32 := 0#32
  let c0_i32_29 : BitVec 32 := 0#32
  let c1_i32_31 : BitVec 32 := 1#32
  let arg11 : BitVec 32 := Scf.iv c0_i32_29 c1_i32_31 k1_t2
  let c1_i32_65 : BitVec 32 := 1#32
  let v126 : BitVec 32 := Scalar.muli arg11 c1_i32_65
  let v127 : BitVec 32 := Scalar.addi c0_i32_66 v126
  let c16_i32_82 : BitVec 32 := 16#32
  let v172 : BitVec 32 := Scalar.muli v127 c16_i32_82
  let v174 : Index := Scalar.indexCast v172
  ![3, v174.toNat]
def k1_off28 (k1_t2 : Fin k1_t2_loop.trips) : Fin 2 → Nat :=
  let c4_i32 : BitVec 32 := 4#32
  let v177 : Index := Scalar.indexCast c4_i32
  let c0_i32_66 : BitVec 32 := 0#32
  let c0_i32_29 : BitVec 32 := 0#32
  let c1_i32_31 : BitVec 32 := 1#32
  let arg11 : BitVec 32 := Scf.iv c0_i32_29 c1_i32_31 k1_t2
  let c1_i32_65 : BitVec 32 := 1#32
  let v126 : BitVec 32 := Scalar.muli arg11 c1_i32_65
  let v127 : BitVec 32 := Scalar.addi c0_i32_66 v126
  let c16_i32_84 : BitVec 32 := 16#32
  let v176 : BitVec 32 := Scalar.muli v127 c16_i32_84
  let v178 : Index := Scalar.indexCast v176
  ![4, v178.toNat]

def k1_chk13 (v182 : IVec S16 32) : Prop :=
  (∀ a x, ((![v182] : Fin 1 → IVec S16 32) a x).toNat < S1000.size a)
theorem k1_idx13_inb : ∀ (v182 : IVec S16 32) (k1_hw13 : k1_chk13 v182), ∀ a x, ((![v182] : Fin 1 → IVec S16 32) a x).toNat < S1000.size a := fun v182 k1_hw13 => k1_hw13
def k1_off29 (k1_t2 : Fin k1_t2_loop.trips) : Fin 2 → Nat :=
  let c4_i32_87 : BitVec 32 := 4#32
  let v185 : Index := Scalar.indexCast c4_i32_87
  let c0_i32_66 : BitVec 32 := 0#32
  let c0_i32_29 : BitVec 32 := 0#32
  let c1_i32_31 : BitVec 32 := 1#32
  let arg11 : BitVec 32 := Scf.iv c0_i32_29 c1_i32_31 k1_t2
  let c1_i32_65 : BitVec 32 := 1#32
  let v126 : BitVec 32 := Scalar.muli arg11 c1_i32_65
  let v127 : BitVec 32 := Scalar.addi c0_i32_66 v126
  let c16_i32_86 : BitVec 32 := 16#32
  let v184 : BitVec 32 := Scalar.muli v127 c16_i32_86
  let v186 : Index := Scalar.indexCast v184
  ![4, v186.toNat]
def k1_off30 (k1_t2 : Fin k1_t2_loop.trips) : Fin 2 → Nat :=
  let c5_i32 : BitVec 32 := 5#32
  let v189 : Index := Scalar.indexCast c5_i32
  let c0_i32_66 : BitVec 32 := 0#32
  let c0_i32_29 : BitVec 32 := 0#32
  let c1_i32_31 : BitVec 32 := 1#32
  let arg11 : BitVec 32 := Scf.iv c0_i32_29 c1_i32_31 k1_t2
  let c1_i32_65 : BitVec 32 := 1#32
  let v126 : BitVec 32 := Scalar.muli arg11 c1_i32_65
  let v127 : BitVec 32 := Scalar.addi c0_i32_66 v126
  let c16_i32_88 : BitVec 32 := 16#32
  let v188 : BitVec 32 := Scalar.muli v127 c16_i32_88
  let v190 : Index := Scalar.indexCast v188
  ![5, v190.toNat]

def k1_chk14 (v194 : IVec S16 32) : Prop :=
  (∀ a x, ((![v194] : Fin 1 → IVec S16 32) a x).toNat < S1000.size a)
theorem k1_idx14_inb : ∀ (v194 : IVec S16 32) (k1_hw14 : k1_chk14 v194), ∀ a x, ((![v194] : Fin 1 → IVec S16 32) a x).toNat < S1000.size a := fun v194 k1_hw14 => k1_hw14
def k1_off31 (k1_t2 : Fin k1_t2_loop.trips) : Fin 2 → Nat :=
  let c5_i32_91 : BitVec 32 := 5#32
  let v197 : Index := Scalar.indexCast c5_i32_91
  let c0_i32_66 : BitVec 32 := 0#32
  let c0_i32_29 : BitVec 32 := 0#32
  let c1_i32_31 : BitVec 32 := 1#32
  let arg11 : BitVec 32 := Scf.iv c0_i32_29 c1_i32_31 k1_t2
  let c1_i32_65 : BitVec 32 := 1#32
  let v126 : BitVec 32 := Scalar.muli arg11 c1_i32_65
  let v127 : BitVec 32 := Scalar.addi c0_i32_66 v126
  let c16_i32_90 : BitVec 32 := 16#32
  let v196 : BitVec 32 := Scalar.muli v127 c16_i32_90
  let v198 : Index := Scalar.indexCast v196
  ![5, v198.toNat]
def k1_off32 (k1_t2 : Fin k1_t2_loop.trips) : Fin 2 → Nat :=
  let c6_i32 : BitVec 32 := 6#32
  let v201 : Index := Scalar.indexCast c6_i32
  let c0_i32_66 : BitVec 32 := 0#32
  let c0_i32_29 : BitVec 32 := 0#32
  let c1_i32_31 : BitVec 32 := 1#32
  let arg11 : BitVec 32 := Scf.iv c0_i32_29 c1_i32_31 k1_t2
  let c1_i32_65 : BitVec 32 := 1#32
  let v126 : BitVec 32 := Scalar.muli arg11 c1_i32_65
  let v127 : BitVec 32 := Scalar.addi c0_i32_66 v126
  let c16_i32_92 : BitVec 32 := 16#32
  let v200 : BitVec 32 := Scalar.muli v127 c16_i32_92
  let v202 : Index := Scalar.indexCast v200
  ![6, v202.toNat]

def k1_chk15 (v206 : IVec S16 32) : Prop :=
  (∀ a x, ((![v206] : Fin 1 → IVec S16 32) a x).toNat < S1000.size a)
theorem k1_idx15_inb : ∀ (v206 : IVec S16 32) (k1_hw15 : k1_chk15 v206), ∀ a x, ((![v206] : Fin 1 → IVec S16 32) a x).toNat < S1000.size a := fun v206 k1_hw15 => k1_hw15
def k1_off33 (k1_t2 : Fin k1_t2_loop.trips) : Fin 2 → Nat :=
  let c6_i32_95 : BitVec 32 := 6#32
  let v209 : Index := Scalar.indexCast c6_i32_95
  let c0_i32_66 : BitVec 32 := 0#32
  let c0_i32_29 : BitVec 32 := 0#32
  let c1_i32_31 : BitVec 32 := 1#32
  let arg11 : BitVec 32 := Scf.iv c0_i32_29 c1_i32_31 k1_t2
  let c1_i32_65 : BitVec 32 := 1#32
  let v126 : BitVec 32 := Scalar.muli arg11 c1_i32_65
  let v127 : BitVec 32 := Scalar.addi c0_i32_66 v126
  let c16_i32_94 : BitVec 32 := 16#32
  let v208 : BitVec 32 := Scalar.muli v127 c16_i32_94
  let v210 : Index := Scalar.indexCast v208
  ![6, v210.toNat]
def k1_off34 (k1_t2 : Fin k1_t2_loop.trips) : Fin 2 → Nat :=
  let c7_i32 : BitVec 32 := 7#32
  let v213 : Index := Scalar.indexCast c7_i32
  let c0_i32_66 : BitVec 32 := 0#32
  let c0_i32_29 : BitVec 32 := 0#32
  let c1_i32_31 : BitVec 32 := 1#32
  let arg11 : BitVec 32 := Scf.iv c0_i32_29 c1_i32_31 k1_t2
  let c1_i32_65 : BitVec 32 := 1#32
  let v126 : BitVec 32 := Scalar.muli arg11 c1_i32_65
  let v127 : BitVec 32 := Scalar.addi c0_i32_66 v126
  let c16_i32_96 : BitVec 32 := 16#32
  let v212 : BitVec 32 := Scalar.muli v127 c16_i32_96
  let v214 : Index := Scalar.indexCast v212
  ![7, v214.toNat]

def k1_chk16 (v218 : IVec S16 32) : Prop :=
  (∀ a x, ((![v218] : Fin 1 → IVec S16 32) a x).toNat < S1000.size a)
theorem k1_idx16_inb : ∀ (v218 : IVec S16 32) (k1_hw16 : k1_chk16 v218), ∀ a x, ((![v218] : Fin 1 → IVec S16 32) a x).toNat < S1000.size a := fun v218 k1_hw16 => k1_hw16
def k1_off35 (k1_t2 : Fin k1_t2_loop.trips) : Fin 2 → Nat :=
  let c7_i32_99 : BitVec 32 := 7#32
  let v221 : Index := Scalar.indexCast c7_i32_99
  let c0_i32_66 : BitVec 32 := 0#32
  let c0_i32_29 : BitVec 32 := 0#32
  let c1_i32_31 : BitVec 32 := 1#32
  let arg11 : BitVec 32 := Scf.iv c0_i32_29 c1_i32_31 k1_t2
  let c1_i32_65 : BitVec 32 := 1#32
  let v126 : BitVec 32 := Scalar.muli arg11 c1_i32_65
  let v127 : BitVec 32 := Scalar.addi c0_i32_66 v126
  let c16_i32_98 : BitVec 32 := 16#32
  let v220 : BitVec 32 := Scalar.muli v127 c16_i32_98
  let v222 : Index := Scalar.indexCast v220
  ![7, v222.toNat]
def k1_off36 (i : grid1.Coords) (c32_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v36 : BitVec 32 := Scalar.addi c32_i32 v1
  let c0_i32_16 : BitVec 32 := 0#32
  let v38 : BitVec 1 := Scalar.cmpi .sgt v36 c0_i32_16
  let v39 : BitVec 32 := Scalar.extui v38
  let c0_i32_17 : BitVec 32 := 0#32
  let v40 : BitVec 1 := Scalar.cmpi .slt v36 c0_i32_17
  let v41 : BitVec 32 := Scalar.extui v40
  let v42 : BitVec 32 := Scalar.subi v39 v41
  let c12_i32_15 : BitVec 32 := 12#32
  let c0_i32_18 : BitVec 32 := 0#32
  let v43 : BitVec 1 := Scalar.cmpi .sgt c12_i32_15 c0_i32_18
  let v44 : BitVec 32 := Scalar.extui v43
  let c0_i32_19 : BitVec 32 := 0#32
  let v45 : BitVec 1 := Scalar.cmpi .slt c12_i32_15 c0_i32_19
  let v46 : BitVec 32 := Scalar.extui v45
  let v47 : BitVec 32 := Scalar.subi v44 v46
  let v48 : BitVec 1 := Scalar.cmpi .ne v42 v47
  let v49 : BitVec 32 := Scalar.remsi v36 c12_i32_15
  let c0_i32_20 : BitVec 32 := 0#32
  let v50 : BitVec 1 := Scalar.cmpi .ne v49 c0_i32_20
  let v51 : BitVec 1 := Scalar.andi v48 v50
  let v37 : BitVec 32 := Scalar.divsi v36 c12_i32_15
  let c1_i32_21 : BitVec 32 := 1#32
  let v52 : BitVec 32 := Scalar.subi v37 c1_i32_21
  let v53 : BitVec 32 := Scalar.select v51 v52 v37
  let c12_i32_22 : BitVec 32 := 12#32
  let c0_i32_23 : BitVec 32 := 0#32
  let v54 : BitVec 1 := Scalar.cmpi .eq c12_i32_22 c0_i32_23
  let c1_i32_24 : BitVec 32 := 1#32
  let v55 : BitVec 32 := Scalar.select v54 c1_i32_24 c12_i32_22
  let v56 : BitVec 32 := Scalar.remsi v36 v55
  let c0_i32_26 : BitVec 32 := 0#32
  let v58 : BitVec 1 := Scalar.cmpi .slt v56 c0_i32_26
  let c0_i32_27 : BitVec 32 := 0#32
  let v59 : BitVec 1 := Scalar.cmpi .slt v55 c0_i32_27
  let v60 : BitVec 1 := Scalar.xori v58 v59
  let c0_i32_25 : BitVec 32 := 0#32
  let v57 : BitVec 1 := Scalar.cmpi .ne v56 c0_i32_25
  let v61 : BitVec 1 := Scalar.andi v60 v57
  let v62 : BitVec 32 := Scalar.addi v56 v55
  let v63 : BitVec 32 := Scalar.select v61 v62 v56
  let c8_i32_28 : BitVec 32 := 8#32
  let v64 : BitVec 32 := Scalar.muli v63 c8_i32_28
  let v65 : BitVec 32 := v64
  let c0_i32_33 : BitVec 32 := 0#32
  ![v53.toNat, v65.toNat, 0]
def k1_mult3 (i : grid1.Coords) : BitVec 32 :=
  let c64_i32 : BitVec 32 := 64#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v75 : BitVec 32 := Scalar.addi c64_i32 v1
  let c12_i32_44 : BitVec 32 := 12#32
  let c0_i32_45 : BitVec 32 := 0#32
  let v93 : BitVec 1 := Scalar.cmpi .eq c12_i32_44 c0_i32_45
  let c1_i32_46 : BitVec 32 := 1#32
  let v94 : BitVec 32 := Scalar.select v93 c1_i32_46 c12_i32_44
  let v95 : BitVec 32 := Scalar.remsi v75 v94
  let c0_i32_48 : BitVec 32 := 0#32
  let v97 : BitVec 1 := Scalar.cmpi .slt v95 c0_i32_48
  let c0_i32_49 : BitVec 32 := 0#32
  let v98 : BitVec 1 := Scalar.cmpi .slt v94 c0_i32_49
  let v99 : BitVec 1 := Scalar.xori v97 v98
  let c0_i32_47 : BitVec 32 := 0#32
  let v96 : BitVec 1 := Scalar.cmpi .ne v95 c0_i32_47
  let v100 : BitVec 1 := Scalar.andi v99 v96
  let v101 : BitVec 32 := Scalar.addi v95 v94
  let v102 : BitVec 32 := Scalar.select v100 v101 v95
  let c8_i32_50 : BitVec 32 := 8#32
  let v103 : BitVec 32 := Scalar.muli v102 c8_i32_50
  v103
@[reducible] def k1_t3_loop : Scf.Loop 32 :=
  let c0_i32_51 : BitVec 32 := 0#32
  let c256_i32_52 : BitVec 32 := 256#32
  let v105 : BitVec 32 := Scalar.addi c0_i32_51 c256_i32_52
  let c1_i32_53 : BitVec 32 := 1#32
  ⟨c0_i32_51, v105, c1_i32_53⟩
def k1_off37 (k1_t3 : Fin k1_t3_loop.trips) : Fin 2 → Nat :=
  let c0_i32_67 : BitVec 32 := 0#32
  let v129 : Index := Scalar.indexCast c0_i32_67
  let c0_i32_66 : BitVec 32 := 0#32
  let c0_i32_51 : BitVec 32 := 0#32
  let c1_i32_53 : BitVec 32 := 1#32
  let arg11 : BitVec 32 := Scf.iv c0_i32_51 c1_i32_53 k1_t3
  let c1_i32_65 : BitVec 32 := 1#32
  let v126 : BitVec 32 := Scalar.muli arg11 c1_i32_65
  let v127 : BitVec 32 := Scalar.addi c0_i32_66 v126
  let c16_i32 : BitVec 32 := 16#32
  let v128 : BitVec 32 := Scalar.muli v127 c16_i32
  let v130 : Index := Scalar.indexCast v128
  ![0, v130.toNat]

def k1_chk17 (v134 : IVec S16 32) : Prop :=
  (∀ a x, ((![v134] : Fin 1 → IVec S16 32) a x).toNat < S1000.size a)
theorem k1_idx17_inb : ∀ (v134 : IVec S16 32) (k1_hw17 : k1_chk17 v134), ∀ a x, ((![v134] : Fin 1 → IVec S16 32) a x).toNat < S1000.size a := fun v134 k1_hw17 => k1_hw17
def k1_off38 (k1_t3 : Fin k1_t3_loop.trips) : Fin 2 → Nat :=
  let c0_i32_69 : BitVec 32 := 0#32
  let v137 : Index := Scalar.indexCast c0_i32_69
  let c0_i32_66 : BitVec 32 := 0#32
  let c0_i32_51 : BitVec 32 := 0#32
  let c1_i32_53 : BitVec 32 := 1#32
  let arg11 : BitVec 32 := Scf.iv c0_i32_51 c1_i32_53 k1_t3
  let c1_i32_65 : BitVec 32 := 1#32
  let v126 : BitVec 32 := Scalar.muli arg11 c1_i32_65
  let v127 : BitVec 32 := Scalar.addi c0_i32_66 v126
  let c16_i32_68 : BitVec 32 := 16#32
  let v136 : BitVec 32 := Scalar.muli v127 c16_i32_68
  let v138 : Index := Scalar.indexCast v136
  ![0, v138.toNat]
def k1_off39 (k1_t3 : Fin k1_t3_loop.trips) : Fin 2 → Nat :=
  let c1_i32_71 : BitVec 32 := 1#32
  let v141 : Index := Scalar.indexCast c1_i32_71
  let c0_i32_66 : BitVec 32 := 0#32
  let c0_i32_51 : BitVec 32 := 0#32
  let c1_i32_53 : BitVec 32 := 1#32
  let arg11 : BitVec 32 := Scf.iv c0_i32_51 c1_i32_53 k1_t3
  let c1_i32_65 : BitVec 32 := 1#32
  let v126 : BitVec 32 := Scalar.muli arg11 c1_i32_65
  let v127 : BitVec 32 := Scalar.addi c0_i32_66 v126
  let c16_i32_70 : BitVec 32 := 16#32
  let v140 : BitVec 32 := Scalar.muli v127 c16_i32_70
  let v142 : Index := Scalar.indexCast v140
  ![1, v142.toNat]

def k1_chk18 (v146 : IVec S16 32) : Prop :=
  (∀ a x, ((![v146] : Fin 1 → IVec S16 32) a x).toNat < S1000.size a)
theorem k1_idx18_inb : ∀ (v146 : IVec S16 32) (k1_hw18 : k1_chk18 v146), ∀ a x, ((![v146] : Fin 1 → IVec S16 32) a x).toNat < S1000.size a := fun v146 k1_hw18 => k1_hw18
def k1_off40 (k1_t3 : Fin k1_t3_loop.trips) : Fin 2 → Nat :=
  let c1_i32_74 : BitVec 32 := 1#32
  let v149 : Index := Scalar.indexCast c1_i32_74
  let c0_i32_66 : BitVec 32 := 0#32
  let c0_i32_51 : BitVec 32 := 0#32
  let c1_i32_53 : BitVec 32 := 1#32
  let arg11 : BitVec 32 := Scf.iv c0_i32_51 c1_i32_53 k1_t3
  let c1_i32_65 : BitVec 32 := 1#32
  let v126 : BitVec 32 := Scalar.muli arg11 c1_i32_65
  let v127 : BitVec 32 := Scalar.addi c0_i32_66 v126
  let c16_i32_73 : BitVec 32 := 16#32
  let v148 : BitVec 32 := Scalar.muli v127 c16_i32_73
  let v150 : Index := Scalar.indexCast v148
  ![1, v150.toNat]
def k1_off41 (k1_t3 : Fin k1_t3_loop.trips) : Fin 2 → Nat :=
  let c2_i32_76 : BitVec 32 := 2#32
  let v153 : Index := Scalar.indexCast c2_i32_76
  let c0_i32_66 : BitVec 32 := 0#32
  let c0_i32_51 : BitVec 32 := 0#32
  let c1_i32_53 : BitVec 32 := 1#32
  let arg11 : BitVec 32 := Scf.iv c0_i32_51 c1_i32_53 k1_t3
  let c1_i32_65 : BitVec 32 := 1#32
  let v126 : BitVec 32 := Scalar.muli arg11 c1_i32_65
  let v127 : BitVec 32 := Scalar.addi c0_i32_66 v126
  let c16_i32_75 : BitVec 32 := 16#32
  let v152 : BitVec 32 := Scalar.muli v127 c16_i32_75
  let v154 : Index := Scalar.indexCast v152
  ![2, v154.toNat]

def k1_chk19 (v158 : IVec S16 32) : Prop :=
  (∀ a x, ((![v158] : Fin 1 → IVec S16 32) a x).toNat < S1000.size a)
theorem k1_idx19_inb : ∀ (v158 : IVec S16 32) (k1_hw19 : k1_chk19 v158), ∀ a x, ((![v158] : Fin 1 → IVec S16 32) a x).toNat < S1000.size a := fun v158 k1_hw19 => k1_hw19
def k1_off42 (k1_t3 : Fin k1_t3_loop.trips) : Fin 2 → Nat :=
  let c2_i32_79 : BitVec 32 := 2#32
  let v161 : Index := Scalar.indexCast c2_i32_79
  let c0_i32_66 : BitVec 32 := 0#32
  let c0_i32_51 : BitVec 32 := 0#32
  let c1_i32_53 : BitVec 32 := 1#32
  let arg11 : BitVec 32 := Scf.iv c0_i32_51 c1_i32_53 k1_t3
  let c1_i32_65 : BitVec 32 := 1#32
  let v126 : BitVec 32 := Scalar.muli arg11 c1_i32_65
  let v127 : BitVec 32 := Scalar.addi c0_i32_66 v126
  let c16_i32_78 : BitVec 32 := 16#32
  let v160 : BitVec 32 := Scalar.muli v127 c16_i32_78
  let v162 : Index := Scalar.indexCast v160
  ![2, v162.toNat]
def k1_off43 (k1_t3 : Fin k1_t3_loop.trips) : Fin 2 → Nat :=
  let c3_i32 : BitVec 32 := 3#32
  let v165 : Index := Scalar.indexCast c3_i32
  let c0_i32_66 : BitVec 32 := 0#32
  let c0_i32_51 : BitVec 32 := 0#32
  let c1_i32_53 : BitVec 32 := 1#32
  let arg11 : BitVec 32 := Scf.iv c0_i32_51 c1_i32_53 k1_t3
  let c1_i32_65 : BitVec 32 := 1#32
  let v126 : BitVec 32 := Scalar.muli arg11 c1_i32_65
  let v127 : BitVec 32 := Scalar.addi c0_i32_66 v126
  let c16_i32_80 : BitVec 32 := 16#32
  let v164 : BitVec 32 := Scalar.muli v127 c16_i32_80
  let v166 : Index := Scalar.indexCast v164
  ![3, v166.toNat]

def k1_chk20 (v170 : IVec S16 32) : Prop :=
  (∀ a x, ((![v170] : Fin 1 → IVec S16 32) a x).toNat < S1000.size a)
theorem k1_idx20_inb : ∀ (v170 : IVec S16 32) (k1_hw20 : k1_chk20 v170), ∀ a x, ((![v170] : Fin 1 → IVec S16 32) a x).toNat < S1000.size a := fun v170 k1_hw20 => k1_hw20
def k1_off44 (k1_t3 : Fin k1_t3_loop.trips) : Fin 2 → Nat :=
  let c3_i32_83 : BitVec 32 := 3#32
  let v173 : Index := Scalar.indexCast c3_i32_83
  let c0_i32_66 : BitVec 32 := 0#32
  let c0_i32_51 : BitVec 32 := 0#32
  let c1_i32_53 : BitVec 32 := 1#32
  let arg11 : BitVec 32 := Scf.iv c0_i32_51 c1_i32_53 k1_t3
  let c1_i32_65 : BitVec 32 := 1#32
  let v126 : BitVec 32 := Scalar.muli arg11 c1_i32_65
  let v127 : BitVec 32 := Scalar.addi c0_i32_66 v126
  let c16_i32_82 : BitVec 32 := 16#32
  let v172 : BitVec 32 := Scalar.muli v127 c16_i32_82
  let v174 : Index := Scalar.indexCast v172
  ![3, v174.toNat]
def k1_off45 (k1_t3 : Fin k1_t3_loop.trips) : Fin 2 → Nat :=
  let c4_i32 : BitVec 32 := 4#32
  let v177 : Index := Scalar.indexCast c4_i32
  let c0_i32_66 : BitVec 32 := 0#32
  let c0_i32_51 : BitVec 32 := 0#32
  let c1_i32_53 : BitVec 32 := 1#32
  let arg11 : BitVec 32 := Scf.iv c0_i32_51 c1_i32_53 k1_t3
  let c1_i32_65 : BitVec 32 := 1#32
  let v126 : BitVec 32 := Scalar.muli arg11 c1_i32_65
  let v127 : BitVec 32 := Scalar.addi c0_i32_66 v126
  let c16_i32_84 : BitVec 32 := 16#32
  let v176 : BitVec 32 := Scalar.muli v127 c16_i32_84
  let v178 : Index := Scalar.indexCast v176
  ![4, v178.toNat]

def k1_chk21 (v182 : IVec S16 32) : Prop :=
  (∀ a x, ((![v182] : Fin 1 → IVec S16 32) a x).toNat < S1000.size a)
theorem k1_idx21_inb : ∀ (v182 : IVec S16 32) (k1_hw21 : k1_chk21 v182), ∀ a x, ((![v182] : Fin 1 → IVec S16 32) a x).toNat < S1000.size a := fun v182 k1_hw21 => k1_hw21
def k1_off46 (k1_t3 : Fin k1_t3_loop.trips) : Fin 2 → Nat :=
  let c4_i32_87 : BitVec 32 := 4#32
  let v185 : Index := Scalar.indexCast c4_i32_87
  let c0_i32_66 : BitVec 32 := 0#32
  let c0_i32_51 : BitVec 32 := 0#32
  let c1_i32_53 : BitVec 32 := 1#32
  let arg11 : BitVec 32 := Scf.iv c0_i32_51 c1_i32_53 k1_t3
  let c1_i32_65 : BitVec 32 := 1#32
  let v126 : BitVec 32 := Scalar.muli arg11 c1_i32_65
  let v127 : BitVec 32 := Scalar.addi c0_i32_66 v126
  let c16_i32_86 : BitVec 32 := 16#32
  let v184 : BitVec 32 := Scalar.muli v127 c16_i32_86
  let v186 : Index := Scalar.indexCast v184
  ![4, v186.toNat]
def k1_off47 (k1_t3 : Fin k1_t3_loop.trips) : Fin 2 → Nat :=
  let c5_i32 : BitVec 32 := 5#32
  let v189 : Index := Scalar.indexCast c5_i32
  let c0_i32_66 : BitVec 32 := 0#32
  let c0_i32_51 : BitVec 32 := 0#32
  let c1_i32_53 : BitVec 32 := 1#32
  let arg11 : BitVec 32 := Scf.iv c0_i32_51 c1_i32_53 k1_t3
  let c1_i32_65 : BitVec 32 := 1#32
  let v126 : BitVec 32 := Scalar.muli arg11 c1_i32_65
  let v127 : BitVec 32 := Scalar.addi c0_i32_66 v126
  let c16_i32_88 : BitVec 32 := 16#32
  let v188 : BitVec 32 := Scalar.muli v127 c16_i32_88
  let v190 : Index := Scalar.indexCast v188
  ![5, v190.toNat]

def k1_chk22 (v194 : IVec S16 32) : Prop :=
  (∀ a x, ((![v194] : Fin 1 → IVec S16 32) a x).toNat < S1000.size a)
theorem k1_idx22_inb : ∀ (v194 : IVec S16 32) (k1_hw22 : k1_chk22 v194), ∀ a x, ((![v194] : Fin 1 → IVec S16 32) a x).toNat < S1000.size a := fun v194 k1_hw22 => k1_hw22
def k1_off48 (k1_t3 : Fin k1_t3_loop.trips) : Fin 2 → Nat :=
  let c5_i32_91 : BitVec 32 := 5#32
  let v197 : Index := Scalar.indexCast c5_i32_91
  let c0_i32_66 : BitVec 32 := 0#32
  let c0_i32_51 : BitVec 32 := 0#32
  let c1_i32_53 : BitVec 32 := 1#32
  let arg11 : BitVec 32 := Scf.iv c0_i32_51 c1_i32_53 k1_t3
  let c1_i32_65 : BitVec 32 := 1#32
  let v126 : BitVec 32 := Scalar.muli arg11 c1_i32_65
  let v127 : BitVec 32 := Scalar.addi c0_i32_66 v126
  let c16_i32_90 : BitVec 32 := 16#32
  let v196 : BitVec 32 := Scalar.muli v127 c16_i32_90
  let v198 : Index := Scalar.indexCast v196
  ![5, v198.toNat]
def k1_off49 (k1_t3 : Fin k1_t3_loop.trips) : Fin 2 → Nat :=
  let c6_i32 : BitVec 32 := 6#32
  let v201 : Index := Scalar.indexCast c6_i32
  let c0_i32_66 : BitVec 32 := 0#32
  let c0_i32_51 : BitVec 32 := 0#32
  let c1_i32_53 : BitVec 32 := 1#32
  let arg11 : BitVec 32 := Scf.iv c0_i32_51 c1_i32_53 k1_t3
  let c1_i32_65 : BitVec 32 := 1#32
  let v126 : BitVec 32 := Scalar.muli arg11 c1_i32_65
  let v127 : BitVec 32 := Scalar.addi c0_i32_66 v126
  let c16_i32_92 : BitVec 32 := 16#32
  let v200 : BitVec 32 := Scalar.muli v127 c16_i32_92
  let v202 : Index := Scalar.indexCast v200
  ![6, v202.toNat]

def k1_chk23 (v206 : IVec S16 32) : Prop :=
  (∀ a x, ((![v206] : Fin 1 → IVec S16 32) a x).toNat < S1000.size a)
theorem k1_idx23_inb : ∀ (v206 : IVec S16 32) (k1_hw23 : k1_chk23 v206), ∀ a x, ((![v206] : Fin 1 → IVec S16 32) a x).toNat < S1000.size a := fun v206 k1_hw23 => k1_hw23
def k1_off50 (k1_t3 : Fin k1_t3_loop.trips) : Fin 2 → Nat :=
  let c6_i32_95 : BitVec 32 := 6#32
  let v209 : Index := Scalar.indexCast c6_i32_95
  let c0_i32_66 : BitVec 32 := 0#32
  let c0_i32_51 : BitVec 32 := 0#32
  let c1_i32_53 : BitVec 32 := 1#32
  let arg11 : BitVec 32 := Scf.iv c0_i32_51 c1_i32_53 k1_t3
  let c1_i32_65 : BitVec 32 := 1#32
  let v126 : BitVec 32 := Scalar.muli arg11 c1_i32_65
  let v127 : BitVec 32 := Scalar.addi c0_i32_66 v126
  let c16_i32_94 : BitVec 32 := 16#32
  let v208 : BitVec 32 := Scalar.muli v127 c16_i32_94
  let v210 : Index := Scalar.indexCast v208
  ![6, v210.toNat]
def k1_off51 (k1_t3 : Fin k1_t3_loop.trips) : Fin 2 → Nat :=
  let c7_i32 : BitVec 32 := 7#32
  let v213 : Index := Scalar.indexCast c7_i32
  let c0_i32_66 : BitVec 32 := 0#32
  let c0_i32_51 : BitVec 32 := 0#32
  let c1_i32_53 : BitVec 32 := 1#32
  let arg11 : BitVec 32 := Scf.iv c0_i32_51 c1_i32_53 k1_t3
  let c1_i32_65 : BitVec 32 := 1#32
  let v126 : BitVec 32 := Scalar.muli arg11 c1_i32_65
  let v127 : BitVec 32 := Scalar.addi c0_i32_66 v126
  let c16_i32_96 : BitVec 32 := 16#32
  let v212 : BitVec 32 := Scalar.muli v127 c16_i32_96
  let v214 : Index := Scalar.indexCast v212
  ![7, v214.toNat]

def k1_chk24 (v218 : IVec S16 32) : Prop :=
  (∀ a x, ((![v218] : Fin 1 → IVec S16 32) a x).toNat < S1000.size a)
theorem k1_idx24_inb : ∀ (v218 : IVec S16 32) (k1_hw24 : k1_chk24 v218), ∀ a x, ((![v218] : Fin 1 → IVec S16 32) a x).toNat < S1000.size a := fun v218 k1_hw24 => k1_hw24
def k1_off52 (k1_t3 : Fin k1_t3_loop.trips) : Fin 2 → Nat :=
  let c7_i32_99 : BitVec 32 := 7#32
  let v221 : Index := Scalar.indexCast c7_i32_99
  let c0_i32_66 : BitVec 32 := 0#32
  let c0_i32_51 : BitVec 32 := 0#32
  let c1_i32_53 : BitVec 32 := 1#32
  let arg11 : BitVec 32 := Scf.iv c0_i32_51 c1_i32_53 k1_t3
  let c1_i32_65 : BitVec 32 := 1#32
  let v126 : BitVec 32 := Scalar.muli arg11 c1_i32_65
  let v127 : BitVec 32 := Scalar.addi c0_i32_66 v126
  let c16_i32_98 : BitVec 32 := 16#32
  let v220 : BitVec 32 := Scalar.muli v127 c16_i32_98
  let v222 : Index := Scalar.indexCast v220
  ![7, v222.toNat]
def k1_cond1 (i : grid1.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c24_i32 : BitVec 32 := 24#32
  let v114 : BitVec 1 := Scalar.cmpi .slt v1 c24_i32
  let v115 : BitVec 32 := Scalar.extui v114
  let c0_i32_59 : BitVec 32 := 0#32
  let v116 : BitVec 1 := Scalar.cmpi .ne v115 c0_i32_59
  v116

def k1_mult4 (i : grid1.Coords) : BitVec 32 :=
  let c96_i32 : BitVec 32 := 96#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v126 : BitVec 32 := Scalar.addi c96_i32 v1
  let c12_i32_72 : BitVec 32 := 12#32
  let c0_i32_73 : BitVec 32 := 0#32
  let v144 : BitVec 1 := Scalar.cmpi .eq c12_i32_72 c0_i32_73
  let c1_i32_74 : BitVec 32 := 1#32
  let v145 : BitVec 32 := Scalar.select v144 c1_i32_74 c12_i32_72
  let v146 : BitVec 32 := Scalar.remsi v126 v145
  let c0_i32_76 : BitVec 32 := 0#32
  let v148 : BitVec 1 := Scalar.cmpi .slt v146 c0_i32_76
  let c0_i32_77 : BitVec 32 := 0#32
  let v149 : BitVec 1 := Scalar.cmpi .slt v145 c0_i32_77
  let v150 : BitVec 1 := Scalar.xori v148 v149
  let c0_i32_75 : BitVec 32 := 0#32
  let v147 : BitVec 1 := Scalar.cmpi .ne v146 c0_i32_75
  let v151 : BitVec 1 := Scalar.andi v150 v147
  let v152 : BitVec 32 := Scalar.addi v146 v145
  let v153 : BitVec 32 := Scalar.select v151 v152 v146
  let c8_i32_78 : BitVec 32 := 8#32
  let v154 : BitVec 32 := Scalar.muli v153 c8_i32_78
  v154
def k1_off53 (i : grid1.Coords) : Fin 2 → Nat :=
  let c96_i32 : BitVec 32 := 96#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v126 : BitVec 32 := Scalar.addi c96_i32 v1
  let c12_i32_72 : BitVec 32 := 12#32
  let c0_i32_73 : BitVec 32 := 0#32
  let v144 : BitVec 1 := Scalar.cmpi .eq c12_i32_72 c0_i32_73
  let c1_i32_74 : BitVec 32 := 1#32
  let v145 : BitVec 32 := Scalar.select v144 c1_i32_74 c12_i32_72
  let v146 : BitVec 32 := Scalar.remsi v126 v145
  let c0_i32_76 : BitVec 32 := 0#32
  let v148 : BitVec 1 := Scalar.cmpi .slt v146 c0_i32_76
  let c0_i32_77 : BitVec 32 := 0#32
  let v149 : BitVec 1 := Scalar.cmpi .slt v145 c0_i32_77
  let v150 : BitVec 1 := Scalar.xori v148 v149
  let c0_i32_75 : BitVec 32 := 0#32
  let v147 : BitVec 1 := Scalar.cmpi .ne v146 c0_i32_75
  let v151 : BitVec 1 := Scalar.andi v150 v147
  let v152 : BitVec 32 := Scalar.addi v146 v145
  let v153 : BitVec 32 := Scalar.select v151 v152 v146
  let c8_i32_78 : BitVec 32 := 8#32
  let v154 : BitVec 32 := Scalar.muli v153 c8_i32_78
  let v155 : BitVec 32 := v154
  let c0_i32_83_r4 : BitVec 32 := 0#32
  ![v155.toNat, 0]
@[reducible] def k1_t4_loop : Scf.Loop 32 :=
  let c0_i32_79 : BitVec 32 := 0#32
  let c256_i32_80 : BitVec 32 := 256#32
  let v156 : BitVec 32 := Scalar.addi c0_i32_79 c256_i32_80
  let c1_i32_81 : BitVec 32 := 1#32
  ⟨c0_i32_79, v156, c1_i32_81⟩
def k1_off54 (k1_t4 : Fin k1_t4_loop.trips) : Fin 2 → Nat :=
  let c0_i32_85 : BitVec 32 := 0#32
  let v160 : Index := Scalar.indexCast c0_i32_85
  let c0_i32_84 : BitVec 32 := 0#32
  let c0_i32_79 : BitVec 32 := 0#32
  let c1_i32_81 : BitVec 32 := 1#32
  let arg11 : BitVec 32 := Scf.iv c0_i32_79 c1_i32_81 k1_t4
  let c1_i32_83 : BitVec 32 := 1#32
  let v157 : BitVec 32 := Scalar.muli arg11 c1_i32_83
  let v158 : BitVec 32 := Scalar.addi c0_i32_84 v157
  let c16_i32 : BitVec 32 := 16#32
  let v159 : BitVec 32 := Scalar.muli v158 c16_i32
  let v161 : Index := Scalar.indexCast v159
  ![0, v161.toNat]

def k1_chk25 (i : grid1.Coords) (v165 : IVec S16 32) : Prop :=
  (∀ (k1_h1 : k1_cond1 i = 1#1), ∀ a x, ((![v165] : Fin 1 → IVec S16 32) a x).toNat < S1000.size a)
theorem k1_idx25_inb : ∀ (i : grid1.Coords) (v165 : IVec S16 32) (k1_hw25 : k1_chk25 i v165), ∀ (k1_h1 : k1_cond1 i = 1#1), ∀ a x, ((![v165] : Fin 1 → IVec S16 32) a x).toNat < S1000.size a := fun i v165 k1_hw25 k1_h1 => k1_hw25 k1_h1
def k1_off55 (k1_t4 : Fin k1_t4_loop.trips) : Fin 2 → Nat :=
  let c0_i32_87 : BitVec 32 := 0#32
  let v168 : Index := Scalar.indexCast c0_i32_87
  let c0_i32_84 : BitVec 32 := 0#32
  let c0_i32_79 : BitVec 32 := 0#32
  let c1_i32_81 : BitVec 32 := 1#32
  let arg11 : BitVec 32 := Scf.iv c0_i32_79 c1_i32_81 k1_t4
  let c1_i32_83 : BitVec 32 := 1#32
  let v157 : BitVec 32 := Scalar.muli arg11 c1_i32_83
  let v158 : BitVec 32 := Scalar.addi c0_i32_84 v157
  let c16_i32_86 : BitVec 32 := 16#32
  let v167 : BitVec 32 := Scalar.muli v158 c16_i32_86
  let v169 : Index := Scalar.indexCast v167
  ![0, v169.toNat]
def k1_off56 (k1_t4 : Fin k1_t4_loop.trips) : Fin 2 → Nat :=
  let c1_i32_89 : BitVec 32 := 1#32
  let v172 : Index := Scalar.indexCast c1_i32_89
  let c0_i32_84 : BitVec 32 := 0#32
  let c0_i32_79 : BitVec 32 := 0#32
  let c1_i32_81 : BitVec 32 := 1#32
  let arg11 : BitVec 32 := Scf.iv c0_i32_79 c1_i32_81 k1_t4
  let c1_i32_83 : BitVec 32 := 1#32
  let v157 : BitVec 32 := Scalar.muli arg11 c1_i32_83
  let v158 : BitVec 32 := Scalar.addi c0_i32_84 v157
  let c16_i32_88 : BitVec 32 := 16#32
  let v171 : BitVec 32 := Scalar.muli v158 c16_i32_88
  let v173 : Index := Scalar.indexCast v171
  ![1, v173.toNat]

def k1_chk26 (i : grid1.Coords) (v177 : IVec S16 32) : Prop :=
  (∀ (k1_h1 : k1_cond1 i = 1#1), ∀ a x, ((![v177] : Fin 1 → IVec S16 32) a x).toNat < S1000.size a)
theorem k1_idx26_inb : ∀ (i : grid1.Coords) (v177 : IVec S16 32) (k1_hw26 : k1_chk26 i v177), ∀ (k1_h1 : k1_cond1 i = 1#1), ∀ a x, ((![v177] : Fin 1 → IVec S16 32) a x).toNat < S1000.size a := fun i v177 k1_hw26 k1_h1 => k1_hw26 k1_h1
def k1_off57 (k1_t4 : Fin k1_t4_loop.trips) : Fin 2 → Nat :=
  let c1_i32_92 : BitVec 32 := 1#32
  let v180 : Index := Scalar.indexCast c1_i32_92
  let c0_i32_84 : BitVec 32 := 0#32
  let c0_i32_79 : BitVec 32 := 0#32
  let c1_i32_81 : BitVec 32 := 1#32
  let arg11 : BitVec 32 := Scf.iv c0_i32_79 c1_i32_81 k1_t4
  let c1_i32_83 : BitVec 32 := 1#32
  let v157 : BitVec 32 := Scalar.muli arg11 c1_i32_83
  let v158 : BitVec 32 := Scalar.addi c0_i32_84 v157
  let c16_i32_91 : BitVec 32 := 16#32
  let v179 : BitVec 32 := Scalar.muli v158 c16_i32_91
  let v181 : Index := Scalar.indexCast v179
  ![1, v181.toNat]
def k1_off58 (k1_t4 : Fin k1_t4_loop.trips) : Fin 2 → Nat :=
  let c2_i32_94 : BitVec 32 := 2#32
  let v184 : Index := Scalar.indexCast c2_i32_94
  let c0_i32_84 : BitVec 32 := 0#32
  let c0_i32_79 : BitVec 32 := 0#32
  let c1_i32_81 : BitVec 32 := 1#32
  let arg11 : BitVec 32 := Scf.iv c0_i32_79 c1_i32_81 k1_t4
  let c1_i32_83 : BitVec 32 := 1#32
  let v157 : BitVec 32 := Scalar.muli arg11 c1_i32_83
  let v158 : BitVec 32 := Scalar.addi c0_i32_84 v157
  let c16_i32_93 : BitVec 32 := 16#32
  let v183 : BitVec 32 := Scalar.muli v158 c16_i32_93
  let v185 : Index := Scalar.indexCast v183
  ![2, v185.toNat]

def k1_chk27 (i : grid1.Coords) (v189 : IVec S16 32) : Prop :=
  (∀ (k1_h1 : k1_cond1 i = 1#1), ∀ a x, ((![v189] : Fin 1 → IVec S16 32) a x).toNat < S1000.size a)
theorem k1_idx27_inb : ∀ (i : grid1.Coords) (v189 : IVec S16 32) (k1_hw27 : k1_chk27 i v189), ∀ (k1_h1 : k1_cond1 i = 1#1), ∀ a x, ((![v189] : Fin 1 → IVec S16 32) a x).toNat < S1000.size a := fun i v189 k1_hw27 k1_h1 => k1_hw27 k1_h1
def k1_off59 (k1_t4 : Fin k1_t4_loop.trips) : Fin 2 → Nat :=
  let c2_i32_97 : BitVec 32 := 2#32
  let v192 : Index := Scalar.indexCast c2_i32_97
  let c0_i32_84 : BitVec 32 := 0#32
  let c0_i32_79 : BitVec 32 := 0#32
  let c1_i32_81 : BitVec 32 := 1#32
  let arg11 : BitVec 32 := Scf.iv c0_i32_79 c1_i32_81 k1_t4
  let c1_i32_83 : BitVec 32 := 1#32
  let v157 : BitVec 32 := Scalar.muli arg11 c1_i32_83
  let v158 : BitVec 32 := Scalar.addi c0_i32_84 v157
  let c16_i32_96 : BitVec 32 := 16#32
  let v191 : BitVec 32 := Scalar.muli v158 c16_i32_96
  let v193 : Index := Scalar.indexCast v191
  ![2, v193.toNat]
def k1_off60 (k1_t4 : Fin k1_t4_loop.trips) : Fin 2 → Nat :=
  let c3_i32 : BitVec 32 := 3#32
  let v196 : Index := Scalar.indexCast c3_i32
  let c0_i32_84 : BitVec 32 := 0#32
  let c0_i32_79 : BitVec 32 := 0#32
  let c1_i32_81 : BitVec 32 := 1#32
  let arg11 : BitVec 32 := Scf.iv c0_i32_79 c1_i32_81 k1_t4
  let c1_i32_83 : BitVec 32 := 1#32
  let v157 : BitVec 32 := Scalar.muli arg11 c1_i32_83
  let v158 : BitVec 32 := Scalar.addi c0_i32_84 v157
  let c16_i32_98 : BitVec 32 := 16#32
  let v195 : BitVec 32 := Scalar.muli v158 c16_i32_98
  let v197 : Index := Scalar.indexCast v195
  ![3, v197.toNat]

def k1_chk28 (i : grid1.Coords) (v201 : IVec S16 32) : Prop :=
  (∀ (k1_h1 : k1_cond1 i = 1#1), ∀ a x, ((![v201] : Fin 1 → IVec S16 32) a x).toNat < S1000.size a)
theorem k1_idx28_inb : ∀ (i : grid1.Coords) (v201 : IVec S16 32) (k1_hw28 : k1_chk28 i v201), ∀ (k1_h1 : k1_cond1 i = 1#1), ∀ a x, ((![v201] : Fin 1 → IVec S16 32) a x).toNat < S1000.size a := fun i v201 k1_hw28 k1_h1 => k1_hw28 k1_h1
def k1_off61 (k1_t4 : Fin k1_t4_loop.trips) : Fin 2 → Nat :=
  let c3_i32_101 : BitVec 32 := 3#32
  let v204 : Index := Scalar.indexCast c3_i32_101
  let c0_i32_84 : BitVec 32 := 0#32
  let c0_i32_79 : BitVec 32 := 0#32
  let c1_i32_81 : BitVec 32 := 1#32
  let arg11 : BitVec 32 := Scf.iv c0_i32_79 c1_i32_81 k1_t4
  let c1_i32_83 : BitVec 32 := 1#32
  let v157 : BitVec 32 := Scalar.muli arg11 c1_i32_83
  let v158 : BitVec 32 := Scalar.addi c0_i32_84 v157
  let c16_i32_100 : BitVec 32 := 16#32
  let v203 : BitVec 32 := Scalar.muli v158 c16_i32_100
  let v205 : Index := Scalar.indexCast v203
  ![3, v205.toNat]
def k1_off62 (k1_t4 : Fin k1_t4_loop.trips) : Fin 2 → Nat :=
  let c4_i32 : BitVec 32 := 4#32
  let v208 : Index := Scalar.indexCast c4_i32
  let c0_i32_84 : BitVec 32 := 0#32
  let c0_i32_79 : BitVec 32 := 0#32
  let c1_i32_81 : BitVec 32 := 1#32
  let arg11 : BitVec 32 := Scf.iv c0_i32_79 c1_i32_81 k1_t4
  let c1_i32_83 : BitVec 32 := 1#32
  let v157 : BitVec 32 := Scalar.muli arg11 c1_i32_83
  let v158 : BitVec 32 := Scalar.addi c0_i32_84 v157
  let c16_i32_102 : BitVec 32 := 16#32
  let v207 : BitVec 32 := Scalar.muli v158 c16_i32_102
  let v209 : Index := Scalar.indexCast v207
  ![4, v209.toNat]

def k1_chk29 (i : grid1.Coords) (v213 : IVec S16 32) : Prop :=
  (∀ (k1_h1 : k1_cond1 i = 1#1), ∀ a x, ((![v213] : Fin 1 → IVec S16 32) a x).toNat < S1000.size a)
theorem k1_idx29_inb : ∀ (i : grid1.Coords) (v213 : IVec S16 32) (k1_hw29 : k1_chk29 i v213), ∀ (k1_h1 : k1_cond1 i = 1#1), ∀ a x, ((![v213] : Fin 1 → IVec S16 32) a x).toNat < S1000.size a := fun i v213 k1_hw29 k1_h1 => k1_hw29 k1_h1
def k1_off63 (k1_t4 : Fin k1_t4_loop.trips) : Fin 2 → Nat :=
  let c4_i32_105 : BitVec 32 := 4#32
  let v216 : Index := Scalar.indexCast c4_i32_105
  let c0_i32_84 : BitVec 32 := 0#32
  let c0_i32_79 : BitVec 32 := 0#32
  let c1_i32_81 : BitVec 32 := 1#32
  let arg11 : BitVec 32 := Scf.iv c0_i32_79 c1_i32_81 k1_t4
  let c1_i32_83 : BitVec 32 := 1#32
  let v157 : BitVec 32 := Scalar.muli arg11 c1_i32_83
  let v158 : BitVec 32 := Scalar.addi c0_i32_84 v157
  let c16_i32_104 : BitVec 32 := 16#32
  let v215 : BitVec 32 := Scalar.muli v158 c16_i32_104
  let v217 : Index := Scalar.indexCast v215
  ![4, v217.toNat]
def k1_off64 (k1_t4 : Fin k1_t4_loop.trips) : Fin 2 → Nat :=
  let c5_i32 : BitVec 32 := 5#32
  let v220 : Index := Scalar.indexCast c5_i32
  let c0_i32_84 : BitVec 32 := 0#32
  let c0_i32_79 : BitVec 32 := 0#32
  let c1_i32_81 : BitVec 32 := 1#32
  let arg11 : BitVec 32 := Scf.iv c0_i32_79 c1_i32_81 k1_t4
  let c1_i32_83 : BitVec 32 := 1#32
  let v157 : BitVec 32 := Scalar.muli arg11 c1_i32_83
  let v158 : BitVec 32 := Scalar.addi c0_i32_84 v157
  let c16_i32_106 : BitVec 32 := 16#32
  let v219 : BitVec 32 := Scalar.muli v158 c16_i32_106
  let v221 : Index := Scalar.indexCast v219
  ![5, v221.toNat]

def k1_chk30 (i : grid1.Coords) (v225 : IVec S16 32) : Prop :=
  (∀ (k1_h1 : k1_cond1 i = 1#1), ∀ a x, ((![v225] : Fin 1 → IVec S16 32) a x).toNat < S1000.size a)
theorem k1_idx30_inb : ∀ (i : grid1.Coords) (v225 : IVec S16 32) (k1_hw30 : k1_chk30 i v225), ∀ (k1_h1 : k1_cond1 i = 1#1), ∀ a x, ((![v225] : Fin 1 → IVec S16 32) a x).toNat < S1000.size a := fun i v225 k1_hw30 k1_h1 => k1_hw30 k1_h1
def k1_off65 (k1_t4 : Fin k1_t4_loop.trips) : Fin 2 → Nat :=
  let c5_i32_109 : BitVec 32 := 5#32
  let v228 : Index := Scalar.indexCast c5_i32_109
  let c0_i32_84 : BitVec 32 := 0#32
  let c0_i32_79 : BitVec 32 := 0#32
  let c1_i32_81 : BitVec 32 := 1#32
  let arg11 : BitVec 32 := Scf.iv c0_i32_79 c1_i32_81 k1_t4
  let c1_i32_83 : BitVec 32 := 1#32
  let v157 : BitVec 32 := Scalar.muli arg11 c1_i32_83
  let v158 : BitVec 32 := Scalar.addi c0_i32_84 v157
  let c16_i32_108 : BitVec 32 := 16#32
  let v227 : BitVec 32 := Scalar.muli v158 c16_i32_108
  let v229 : Index := Scalar.indexCast v227
  ![5, v229.toNat]
def k1_off66 (k1_t4 : Fin k1_t4_loop.trips) : Fin 2 → Nat :=
  let c6_i32 : BitVec 32 := 6#32
  let v232 : Index := Scalar.indexCast c6_i32
  let c0_i32_84 : BitVec 32 := 0#32
  let c0_i32_79 : BitVec 32 := 0#32
  let c1_i32_81 : BitVec 32 := 1#32
  let arg11 : BitVec 32 := Scf.iv c0_i32_79 c1_i32_81 k1_t4
  let c1_i32_83 : BitVec 32 := 1#32
  let v157 : BitVec 32 := Scalar.muli arg11 c1_i32_83
  let v158 : BitVec 32 := Scalar.addi c0_i32_84 v157
  let c16_i32_110 : BitVec 32 := 16#32
  let v231 : BitVec 32 := Scalar.muli v158 c16_i32_110
  let v233 : Index := Scalar.indexCast v231
  ![6, v233.toNat]

def k1_chk31 (i : grid1.Coords) (v237 : IVec S16 32) : Prop :=
  (∀ (k1_h1 : k1_cond1 i = 1#1), ∀ a x, ((![v237] : Fin 1 → IVec S16 32) a x).toNat < S1000.size a)
theorem k1_idx31_inb : ∀ (i : grid1.Coords) (v237 : IVec S16 32) (k1_hw31 : k1_chk31 i v237), ∀ (k1_h1 : k1_cond1 i = 1#1), ∀ a x, ((![v237] : Fin 1 → IVec S16 32) a x).toNat < S1000.size a := fun i v237 k1_hw31 k1_h1 => k1_hw31 k1_h1
def k1_off67 (k1_t4 : Fin k1_t4_loop.trips) : Fin 2 → Nat :=
  let c6_i32_113 : BitVec 32 := 6#32
  let v240 : Index := Scalar.indexCast c6_i32_113
  let c0_i32_84 : BitVec 32 := 0#32
  let c0_i32_79 : BitVec 32 := 0#32
  let c1_i32_81 : BitVec 32 := 1#32
  let arg11 : BitVec 32 := Scf.iv c0_i32_79 c1_i32_81 k1_t4
  let c1_i32_83 : BitVec 32 := 1#32
  let v157 : BitVec 32 := Scalar.muli arg11 c1_i32_83
  let v158 : BitVec 32 := Scalar.addi c0_i32_84 v157
  let c16_i32_112 : BitVec 32 := 16#32
  let v239 : BitVec 32 := Scalar.muli v158 c16_i32_112
  let v241 : Index := Scalar.indexCast v239
  ![6, v241.toNat]
def k1_off68 (k1_t4 : Fin k1_t4_loop.trips) : Fin 2 → Nat :=
  let c7_i32 : BitVec 32 := 7#32
  let v244 : Index := Scalar.indexCast c7_i32
  let c0_i32_84 : BitVec 32 := 0#32
  let c0_i32_79 : BitVec 32 := 0#32
  let c1_i32_81 : BitVec 32 := 1#32
  let arg11 : BitVec 32 := Scf.iv c0_i32_79 c1_i32_81 k1_t4
  let c1_i32_83 : BitVec 32 := 1#32
  let v157 : BitVec 32 := Scalar.muli arg11 c1_i32_83
  let v158 : BitVec 32 := Scalar.addi c0_i32_84 v157
  let c16_i32_114 : BitVec 32 := 16#32
  let v243 : BitVec 32 := Scalar.muli v158 c16_i32_114
  let v245 : Index := Scalar.indexCast v243
  ![7, v245.toNat]

def k1_chk32 (i : grid1.Coords) (v249 : IVec S16 32) : Prop :=
  (∀ (k1_h1 : k1_cond1 i = 1#1), ∀ a x, ((![v249] : Fin 1 → IVec S16 32) a x).toNat < S1000.size a)
theorem k1_idx32_inb : ∀ (i : grid1.Coords) (v249 : IVec S16 32) (k1_hw32 : k1_chk32 i v249), ∀ (k1_h1 : k1_cond1 i = 1#1), ∀ a x, ((![v249] : Fin 1 → IVec S16 32) a x).toNat < S1000.size a := fun i v249 k1_hw32 k1_h1 => k1_hw32 k1_h1
def k1_off69 (k1_t4 : Fin k1_t4_loop.trips) : Fin 2 → Nat :=
  let c7_i32_117 : BitVec 32 := 7#32
  let v252 : Index := Scalar.indexCast c7_i32_117
  let c0_i32_84 : BitVec 32 := 0#32
  let c0_i32_79 : BitVec 32 := 0#32
  let c1_i32_81 : BitVec 32 := 1#32
  let arg11 : BitVec 32 := Scf.iv c0_i32_79 c1_i32_81 k1_t4
  let c1_i32_83 : BitVec 32 := 1#32
  let v157 : BitVec 32 := Scalar.muli arg11 c1_i32_83
  let v158 : BitVec 32 := Scalar.addi c0_i32_84 v157
  let c16_i32_116 : BitVec 32 := 16#32
  let v251 : BitVec 32 := Scalar.muli v158 c16_i32_116
  let v253 : Index := Scalar.indexCast v251
  ![7, v253.toNat]
def k1_off70 (i : grid1.Coords) : Fin 3 → Nat :=
  let c96_i32 : BitVec 32 := 96#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v126 : BitVec 32 := Scalar.addi c96_i32 v1
  let c0_i32_66 : BitVec 32 := 0#32
  let v128 : BitVec 1 := Scalar.cmpi .sgt v126 c0_i32_66
  let v129 : BitVec 32 := Scalar.extui v128
  let c0_i32_67 : BitVec 32 := 0#32
  let v130 : BitVec 1 := Scalar.cmpi .slt v126 c0_i32_67
  let v131 : BitVec 32 := Scalar.extui v130
  let v132 : BitVec 32 := Scalar.subi v129 v131
  let c12_i32_65 : BitVec 32 := 12#32
  let c0_i32_68 : BitVec 32 := 0#32
  let v133 : BitVec 1 := Scalar.cmpi .sgt c12_i32_65 c0_i32_68
  let v134 : BitVec 32 := Scalar.extui v133
  let c0_i32_69 : BitVec 32 := 0#32
  let v135 : BitVec 1 := Scalar.cmpi .slt c12_i32_65 c0_i32_69
  let v136 : BitVec 32 := Scalar.extui v135
  let v137 : BitVec 32 := Scalar.subi v134 v136
  let v138 : BitVec 1 := Scalar.cmpi .ne v132 v137
  let v139 : BitVec 32 := Scalar.remsi v126 c12_i32_65
  let c0_i32_70 : BitVec 32 := 0#32
  let v140 : BitVec 1 := Scalar.cmpi .ne v139 c0_i32_70
  let v141 : BitVec 1 := Scalar.andi v138 v140
  let v127 : BitVec 32 := Scalar.divsi v126 c12_i32_65
  let c1_i32_71 : BitVec 32 := 1#32
  let v142 : BitVec 32 := Scalar.subi v127 c1_i32_71
  let v143 : BitVec 32 := Scalar.select v141 v142 v127
  let c12_i32_72 : BitVec 32 := 12#32
  let c0_i32_73 : BitVec 32 := 0#32
  let v144 : BitVec 1 := Scalar.cmpi .eq c12_i32_72 c0_i32_73
  let c1_i32_74 : BitVec 32 := 1#32
  let v145 : BitVec 32 := Scalar.select v144 c1_i32_74 c12_i32_72
  let v146 : BitVec 32 := Scalar.remsi v126 v145
  let c0_i32_76 : BitVec 32 := 0#32
  let v148 : BitVec 1 := Scalar.cmpi .slt v146 c0_i32_76
  let c0_i32_77 : BitVec 32 := 0#32
  let v149 : BitVec 1 := Scalar.cmpi .slt v145 c0_i32_77
  let v150 : BitVec 1 := Scalar.xori v148 v149
  let c0_i32_75 : BitVec 32 := 0#32
  let v147 : BitVec 1 := Scalar.cmpi .ne v146 c0_i32_75
  let v151 : BitVec 1 := Scalar.andi v150 v147
  let v152 : BitVec 32 := Scalar.addi v146 v145
  let v153 : BitVec 32 := Scalar.select v151 v152 v146
  let c8_i32_78 : BitVec 32 := 8#32
  let v154 : BitVec 32 := Scalar.muli v153 c8_i32_78
  let v155 : BitVec 32 := v154
  let c0_i32_83_r5 : BitVec 32 := 0#32
  ![v143.toNat, v155.toNat, 0]
def k1_cond2 (i : grid1.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c24_i32_62 : BitVec 32 := 24#32
  let v121 : BitVec 1 := Scalar.cmpi .sge v1 c24_i32_62
  let c2_i32_63 : BitVec 32 := 2#32
  let v122 : BitVec 1 := Scalar.cmpi .slt v1 c2_i32_63
  let v123 : BitVec 1 := Scalar.ori v121 v122
  let v124 : BitVec 32 := Scalar.extui v123
  let c0_i32_64 : BitVec 32 := 0#32
  let v125 : BitVec 1 := Scalar.cmpi .ne v124 c0_i32_64
  v125

@[reducible] def k1_t5_loop : Scf.Loop 32 :=
  let c0_i32_68 : BitVec 32 := 0#32
  let c256_i32_69 : BitVec 32 := 256#32
  let v130 : BitVec 32 := Scalar.addi c0_i32_68 c256_i32_69
  let c1_i32_70 : BitVec 32 := 1#32
  ⟨c0_i32_68, v130, c1_i32_70⟩
def k1_off71 (k1_t5 : Fin k1_t5_loop.trips) : Fin 2 → Nat :=
  let c0_i32_74 : BitVec 32 := 0#32
  let v134 : Index := Scalar.indexCast c0_i32_74
  let c0_i32_73 : BitVec 32 := 0#32
  let c0_i32_68 : BitVec 32 := 0#32
  let c1_i32_70 : BitVec 32 := 1#32
  let arg11 : BitVec 32 := Scf.iv c0_i32_68 c1_i32_70 k1_t5
  let c1_i32_72 : BitVec 32 := 1#32
  let v131 : BitVec 32 := Scalar.muli arg11 c1_i32_72
  let v132 : BitVec 32 := Scalar.addi c0_i32_73 v131
  let c16_i32 : BitVec 32 := 16#32
  let v133 : BitVec 32 := Scalar.muli v132 c16_i32
  let v135 : Index := Scalar.indexCast v133
  ![0, v135.toNat]

def k1_chk33 (i : grid1.Coords) (v139 : IVec S16 32) : Prop :=
  (∀ (k1_h2 : k1_cond2 i = 1#1), ∀ a x, ((![v139] : Fin 1 → IVec S16 32) a x).toNat < S1000.size a)
theorem k1_idx33_inb : ∀ (i : grid1.Coords) (v139 : IVec S16 32) (k1_hw33 : k1_chk33 i v139), ∀ (k1_h2 : k1_cond2 i = 1#1), ∀ a x, ((![v139] : Fin 1 → IVec S16 32) a x).toNat < S1000.size a := fun i v139 k1_hw33 k1_h2 => k1_hw33 k1_h2
def k1_off72 (k1_t5 : Fin k1_t5_loop.trips) : Fin 2 → Nat :=
  let c0_i32_76 : BitVec 32 := 0#32
  let v142 : Index := Scalar.indexCast c0_i32_76
  let c0_i32_73 : BitVec 32 := 0#32
  let c0_i32_68 : BitVec 32 := 0#32
  let c1_i32_70 : BitVec 32 := 1#32
  let arg11 : BitVec 32 := Scf.iv c0_i32_68 c1_i32_70 k1_t5
  let c1_i32_72 : BitVec 32 := 1#32
  let v131 : BitVec 32 := Scalar.muli arg11 c1_i32_72
  let v132 : BitVec 32 := Scalar.addi c0_i32_73 v131
  let c16_i32_75 : BitVec 32 := 16#32
  let v141 : BitVec 32 := Scalar.muli v132 c16_i32_75
  let v143 : Index := Scalar.indexCast v141
  ![0, v143.toNat]
def k1_off73 (k1_t5 : Fin k1_t5_loop.trips) : Fin 2 → Nat :=
  let c1_i32_78 : BitVec 32 := 1#32
  let v146 : Index := Scalar.indexCast c1_i32_78
  let c0_i32_73 : BitVec 32 := 0#32
  let c0_i32_68 : BitVec 32 := 0#32
  let c1_i32_70 : BitVec 32 := 1#32
  let arg11 : BitVec 32 := Scf.iv c0_i32_68 c1_i32_70 k1_t5
  let c1_i32_72 : BitVec 32 := 1#32
  let v131 : BitVec 32 := Scalar.muli arg11 c1_i32_72
  let v132 : BitVec 32 := Scalar.addi c0_i32_73 v131
  let c16_i32_77 : BitVec 32 := 16#32
  let v145 : BitVec 32 := Scalar.muli v132 c16_i32_77
  let v147 : Index := Scalar.indexCast v145
  ![1, v147.toNat]

def k1_chk34 (i : grid1.Coords) (v151 : IVec S16 32) : Prop :=
  (∀ (k1_h2 : k1_cond2 i = 1#1), ∀ a x, ((![v151] : Fin 1 → IVec S16 32) a x).toNat < S1000.size a)
theorem k1_idx34_inb : ∀ (i : grid1.Coords) (v151 : IVec S16 32) (k1_hw34 : k1_chk34 i v151), ∀ (k1_h2 : k1_cond2 i = 1#1), ∀ a x, ((![v151] : Fin 1 → IVec S16 32) a x).toNat < S1000.size a := fun i v151 k1_hw34 k1_h2 => k1_hw34 k1_h2
def k1_off74 (k1_t5 : Fin k1_t5_loop.trips) : Fin 2 → Nat :=
  let c1_i32_81 : BitVec 32 := 1#32
  let v154 : Index := Scalar.indexCast c1_i32_81
  let c0_i32_73 : BitVec 32 := 0#32
  let c0_i32_68 : BitVec 32 := 0#32
  let c1_i32_70 : BitVec 32 := 1#32
  let arg11 : BitVec 32 := Scf.iv c0_i32_68 c1_i32_70 k1_t5
  let c1_i32_72 : BitVec 32 := 1#32
  let v131 : BitVec 32 := Scalar.muli arg11 c1_i32_72
  let v132 : BitVec 32 := Scalar.addi c0_i32_73 v131
  let c16_i32_80 : BitVec 32 := 16#32
  let v153 : BitVec 32 := Scalar.muli v132 c16_i32_80
  let v155 : Index := Scalar.indexCast v153
  ![1, v155.toNat]
def k1_off75 (k1_t5 : Fin k1_t5_loop.trips) : Fin 2 → Nat :=
  let c2_i32_83 : BitVec 32 := 2#32
  let v158 : Index := Scalar.indexCast c2_i32_83
  let c0_i32_73 : BitVec 32 := 0#32
  let c0_i32_68 : BitVec 32 := 0#32
  let c1_i32_70 : BitVec 32 := 1#32
  let arg11 : BitVec 32 := Scf.iv c0_i32_68 c1_i32_70 k1_t5
  let c1_i32_72 : BitVec 32 := 1#32
  let v131 : BitVec 32 := Scalar.muli arg11 c1_i32_72
  let v132 : BitVec 32 := Scalar.addi c0_i32_73 v131
  let c16_i32_82 : BitVec 32 := 16#32
  let v157 : BitVec 32 := Scalar.muli v132 c16_i32_82
  let v159 : Index := Scalar.indexCast v157
  ![2, v159.toNat]

def k1_chk35 (i : grid1.Coords) (v163 : IVec S16 32) : Prop :=
  (∀ (k1_h2 : k1_cond2 i = 1#1), ∀ a x, ((![v163] : Fin 1 → IVec S16 32) a x).toNat < S1000.size a)
theorem k1_idx35_inb : ∀ (i : grid1.Coords) (v163 : IVec S16 32) (k1_hw35 : k1_chk35 i v163), ∀ (k1_h2 : k1_cond2 i = 1#1), ∀ a x, ((![v163] : Fin 1 → IVec S16 32) a x).toNat < S1000.size a := fun i v163 k1_hw35 k1_h2 => k1_hw35 k1_h2
def k1_off76 (k1_t5 : Fin k1_t5_loop.trips) : Fin 2 → Nat :=
  let c2_i32_86 : BitVec 32 := 2#32
  let v166 : Index := Scalar.indexCast c2_i32_86
  let c0_i32_73 : BitVec 32 := 0#32
  let c0_i32_68 : BitVec 32 := 0#32
  let c1_i32_70 : BitVec 32 := 1#32
  let arg11 : BitVec 32 := Scf.iv c0_i32_68 c1_i32_70 k1_t5
  let c1_i32_72 : BitVec 32 := 1#32
  let v131 : BitVec 32 := Scalar.muli arg11 c1_i32_72
  let v132 : BitVec 32 := Scalar.addi c0_i32_73 v131
  let c16_i32_85 : BitVec 32 := 16#32
  let v165 : BitVec 32 := Scalar.muli v132 c16_i32_85
  let v167 : Index := Scalar.indexCast v165
  ![2, v167.toNat]
def k1_off77 (k1_t5 : Fin k1_t5_loop.trips) : Fin 2 → Nat :=
  let c3_i32 : BitVec 32 := 3#32
  let v170 : Index := Scalar.indexCast c3_i32
  let c0_i32_73 : BitVec 32 := 0#32
  let c0_i32_68 : BitVec 32 := 0#32
  let c1_i32_70 : BitVec 32 := 1#32
  let arg11 : BitVec 32 := Scf.iv c0_i32_68 c1_i32_70 k1_t5
  let c1_i32_72 : BitVec 32 := 1#32
  let v131 : BitVec 32 := Scalar.muli arg11 c1_i32_72
  let v132 : BitVec 32 := Scalar.addi c0_i32_73 v131
  let c16_i32_87 : BitVec 32 := 16#32
  let v169 : BitVec 32 := Scalar.muli v132 c16_i32_87
  let v171 : Index := Scalar.indexCast v169
  ![3, v171.toNat]

def k1_chk36 (i : grid1.Coords) (v175 : IVec S16 32) : Prop :=
  (∀ (k1_h2 : k1_cond2 i = 1#1), ∀ a x, ((![v175] : Fin 1 → IVec S16 32) a x).toNat < S1000.size a)
theorem k1_idx36_inb : ∀ (i : grid1.Coords) (v175 : IVec S16 32) (k1_hw36 : k1_chk36 i v175), ∀ (k1_h2 : k1_cond2 i = 1#1), ∀ a x, ((![v175] : Fin 1 → IVec S16 32) a x).toNat < S1000.size a := fun i v175 k1_hw36 k1_h2 => k1_hw36 k1_h2
def k1_off78 (k1_t5 : Fin k1_t5_loop.trips) : Fin 2 → Nat :=
  let c3_i32_90 : BitVec 32 := 3#32
  let v178 : Index := Scalar.indexCast c3_i32_90
  let c0_i32_73 : BitVec 32 := 0#32
  let c0_i32_68 : BitVec 32 := 0#32
  let c1_i32_70 : BitVec 32 := 1#32
  let arg11 : BitVec 32 := Scf.iv c0_i32_68 c1_i32_70 k1_t5
  let c1_i32_72 : BitVec 32 := 1#32
  let v131 : BitVec 32 := Scalar.muli arg11 c1_i32_72
  let v132 : BitVec 32 := Scalar.addi c0_i32_73 v131
  let c16_i32_89 : BitVec 32 := 16#32
  let v177 : BitVec 32 := Scalar.muli v132 c16_i32_89
  let v179 : Index := Scalar.indexCast v177
  ![3, v179.toNat]
def k1_off79 (i : grid1.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_65 : BitVec 32 := 2#32
  let v126 : BitVec 1 := Scalar.cmpi .slt v1 c2_i32_65
  let c8_i32_66 : BitVec 32 := 8#32
  let v127 : BitVec 32 := Scalar.addi v1 c8_i32_66
  let c24_i32_67 : BitVec 32 := 24#32
  let v128 : BitVec 32 := Scalar.subi v1 c24_i32_67
  let v129 : BitVec 32 := Scalar.select v126 v127 v128
  let c96_i32_r7 : BitVec 32 := 96#32
  let c0_i32_74_r7 : BitVec 32 := 0#32
  ![v129.toNat, 96, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4096x128 : Shape := ⟨2, ![4096, 128]⟩
abbrev S4096x100 : Shape := ⟨2, ![4096, 100]⟩
abbrev S100x10 : Shape := ⟨2, ![100, 10]⟩
abbrev S_ : Shape := ⟨0, ![]⟩
abbrev S4096x100x1 : Shape := ⟨3, ![4096, 100, 1]⟩
abbrev S1 : Shape := ⟨1, ![1]⟩
abbrev S1x1x1 : Shape := ⟨3, ![1, 1, 1]⟩
abbrev S4096x100x10 : Shape := ⟨3, ![4096, 100, 10]⟩

abbrev nBuf : Space → Nat
  | .hbm => 32
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S4096x100, .i32⟩
  | .hbm, ⟨2, _⟩ => ⟨S100x10, .f32⟩
  | .hbm, ⟨3, _⟩ => ⟨S_, .f32⟩
  | .hbm, ⟨4, _⟩ => ⟨S4096x128, .f32⟩
  | .hbm, ⟨5, _⟩ => ⟨S4096x128, .f32⟩
  | .hbm, ⟨6, _⟩ => ⟨S_, .f32⟩
  | .hbm, ⟨7, _⟩ => ⟨S4096x128, .f32⟩
  | .hbm, ⟨8, _⟩ => ⟨S4096x128, .f32⟩
  | .hbm, ⟨9, _⟩ => ⟨S_, .i32⟩
  | .hbm, ⟨10, _⟩ => ⟨S4096x100, .i32⟩
  | .hbm, ⟨11, _⟩ => ⟨S4096x100, .i1⟩
  | .hbm, ⟨12, _⟩ => ⟨S_, .i32⟩
  | .hbm, ⟨13, _⟩ => ⟨S4096x100, .i32⟩
  | .hbm, ⟨14, _⟩ => ⟨S4096x100, .i32⟩
  | .hbm, ⟨15, _⟩ => ⟨S4096x100, .i32⟩
  | .hbm, ⟨16, _⟩ => ⟨S4096x100x1, .i32⟩
  | .hbm, ⟨17, _⟩ => ⟨S1, .i32⟩
  | .hbm, ⟨18, _⟩ => ⟨S_, .i32⟩
  | .hbm, ⟨19, _⟩ => ⟨S4096x100x1, .i32⟩
  | .hbm, ⟨20, _⟩ => ⟨S4096x100x1, .i1⟩
  | .hbm, ⟨21, _⟩ => ⟨S1x1x1, .i32⟩
  | .hbm, ⟨22, _⟩ => ⟨S4096x100x1, .i32⟩
  | .hbm, ⟨23, _⟩ => ⟨S4096x100x1, .i1⟩
  | .hbm, ⟨24, _⟩ => ⟨S4096x100x1, .i1⟩
  | .hbm, ⟨25, _⟩ => ⟨S_, .i1⟩
  | .hbm, ⟨26, _⟩ => ⟨S4096x100, .i1⟩
  | .hbm, ⟨27, _⟩ => ⟨S4096x100x10, .f32⟩
  | .hbm, ⟨28, _⟩ => ⟨S4096x100x10, .i1⟩
  | .hbm, ⟨29, _⟩ => ⟨S_, .f32⟩
  | .hbm, ⟨30, _⟩ => ⟨S4096x100x10, .f32⟩
  | .hbm, ⟨31, _⟩ => ⟨S4096x100x10, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_cst : Ref sig .tc := ⟨.hbm, 29, rfl⟩
abbrev main_call0_v15 : Ref sig .tc := ⟨.hbm, 30, rfl⟩
abbrev main_v4 : Ref sig .tc := ⟨.hbm, 31, rfl⟩

abbrev nD : Nat := 1
abbrev τ : Topo := Topo.v7x

variable {F : FTy → Type} [FloatOps F]
-- ==== Proof.Base.lean ====
/-
  What every module of the kernel's proof is stated over: the program as the launch theorem sees it, the resource
  algebra (the handshakes' rounds, the pipeline's rounds, the transfers' counters) and the buffers' names.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Regions
public import Idealize.ShloMosaic.Lib.Tactic
public import Idealize.ShloMosaic.Lib.Writes
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.K

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-- The labels of the program without its SparseCore calls: the kernels' and the one pipeline's. -/
abbrev ΛP : Labels := Pipeline.Sig Λ₀ (Fin 1) fun p => (pcfgs (F := F) p).Adm
/-- The SparseCore configuration: one call. -/
abbrev K : SparseCore.Cfg τ sig (ΛP (F := F)) 1 := sc (F := F)
/-- The bodies of those labels. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The handshake semaphores are distinct and unscoped, and no buffer of a SparseCore is shared by its tiles. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds, the pipeline's rounds, the transfers' counters. -/
abbrev UH : Type := URounds (GSem nD τ sig) ℕ
abbrev UP : Type := URounds (GSem nD τ sig) Unit
abbrev UU : Type := UH × (UP × Counters)

local notation "𝕄" => MT nD τ sig (HIx 1) (Elt F) ℕ UU ℕ

/-- The handshakes' rounds in the machine's algebra; -/
abbrev EH : Emb UH (MT nD τ sig (HIx 1) (Elt F) ℕ UU ℕ) := embL
/-- the pipeline's. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EP_landsIn : (EP : Emb UP 𝕄).LandsIn (upEmb : UEmb _ 𝕄) := by unfold EP; infer_instance

end Cert.Proof.K
-- ==== Proof.Rows.lean ====
/-
  One 16-lane row step of the tile kernel — indices loaded, the table gathered at them, the values stored — and a trip
  of such steps, as programs over a row's own words, with what they do to the buffers.
-/
module

public import proofs.«01_k».proof.Proof.Base
public import Idealize.ShloMosaic.Lib.Pipeline.Value

@[expose] public section

noncomputable section

namespace Cert.Proof.K

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-- The thread of the tile at grid coordinates `i` of device `d`. -/
abbrev thr (d : Dev nD) (i : grid1.Coords) : Thread nD τ := V d ((i 0).castLE hcore1) ((i 1).castLE hsub1)

local notation "tabM" => (Memref.whole cc1_scratch0 : Memref sig Kind.scVector Space.vmem S1000 EltTy.f32)
local notation "idxM" => (Memref.whole cc1_scratch1 : Memref sig Kind.scVector Space.vmem S8x4096 EltTy.i32)

/-- One row step at column `n`: its row, the offsets its accesses print, the word of its depth and its printed check. -/
structure Row (n : ℕ) where
  r : ℕ
  o : Fin 2 → ℕ
  inb : ∀ a, o a + S1x16.size a ≤ S8x4096.size a
  o' : Fin 2 → ℕ
  inb' : ∀ a, o' a + S1x16.size a ≤ S8x4096.size a
  w : BitVec 32
  P : IVec S16 32 → Prop
  dP : ∀ v, Decidable (P v)
  hP : ∀ v, P v → ∀ a x, ((![v] : Fin 1 → IVec S16 32) a x).toNat < S1000.size a
  Pof : ∀ v, (∀ a x, ((![v] : Fin 1 → IVec S16 32) a x).toNat < S1000.size a) → P v
  ho : o = ![r, n]
  ho' : o' = ![r, n]

/-- The index vector a row step computes from the sixteen indices it loads. -/
def Row.lanes {n : ℕ} (R : Row n) (ld : Vec F S1x16 .i32) : IVec S16 32 :=
  addi (shapeCast S16 ld shapeCasts_S1x16_S16) (broadcast S16 (Scalar.muli R.w 100#32))

/-- The row step as a program on the tile at `i`, its values stored to `buf`. -/
def Row.prog {n : ℕ} (R : Row n) (i : grid1.Coords) (buf : Memref sig .scVector .vmem S8x4096 .f32) :
    Prog (TpuEff nD τ sig (Elt F) Λ₀ (.scVector ((i 0).castLE hcore1) ((i 1).castLE hsub1))) Unit := do
  let ld : Vec F S1x16 .i32 ← Prog.lift (.load idxM (Rect.unit (s := S8x4096) R.o S1x16.size R.inb).toLoadRect (View.loadsAt_vmem h_S1x16))
  have hw : R.P (R.lanes (F := F) ld) := (← Prog.lift (TpuEff.assume (R.P (R.lanes (F := F) ld)) (R.dP (R.lanes (F := F) ld)))).down
  let g : Vec F S16 .f32 ← SparseCore.vectorLoadIdx tabM ![R.lanes (F := F) ld] (R.hP (R.lanes (F := F) ld) hw) (View.loads_vmem h_S1000)
  let _old : Vec F S1x16 .f32 ← Prog.lift (.load buf (Rect.unit (s := S8x4096) R.o' S1x16.size R.inb').toLoadRect (View.loadsAt_vmem h_S1x16))
  Prog.lift (.store buf (Rect.unit (s := S8x4096) R.o' S1x16.size R.inb') (shapeCast S1x16 g shapeCasts_S16_S1x16) Finset.univ (View.stores_vmem_bits_univ h_S1x16 rfl) (.inl rfl))

/-- Row steps one after another. -/
def trip {n : ℕ} (i : grid1.Coords) (buf : Memref sig .scVector .vmem S8x4096 .f32) : List (Row n) →
    Prog (TpuEff nD τ sig (Elt F) Λ₀ (.scVector ((i 0).castLE hcore1) ((i 1).castLE hsub1))) Unit
  | [] => pure ⟨⟩
  | R :: Rs => do R.prog (F := F) i buf; trip i buf Rs

/-! ## What a row step stores -/

/-- Position `n` of the flattened table. -/
def ix1000 (n : ℕ) : S1000.Idx := fun a => ⟨n % 1000, by obtain rfl : a = 0 := Subsingleton.elim _ _; exact Nat.mod_lt _ (by decide)⟩

/-- Lane `k` of sixteen. -/
def lane (k : ℕ) (hk : k < 16) : S16.Idx := fun a => ⟨k, by obtain rfl : a = 0 := Subsingleton.elim _ _; exact hk⟩

/-- Lane `x` of a one-row block. -/
def lane1 (x : S16.Idx) : S1x16.Idx := Fin.cons (α := fun a => Fin (S1x16.size a)) ⟨0, Nat.one_pos⟩ x

/-- The value at `y` of a unit at depth `D`: the flattened table read at `index + 100·D`. -/
def unitVal (tv : S1000.Idx → Elt F .f32) (iv : S8x4096.Idx → BitVec 32) (D : ℕ) (y : S8x4096.Idx) : Elt F .f32 :=
  tv (ix1000 ((iv y).toNat + 100 * D))

/-- What is filled in a buffer before row step `j` of the trip at column `n`: the columns before `n`, and rows below
    `j` of the sixteen columns from `n`; rows below `h` only. -/
def Done (h n j : ℕ) (y : S8x4096.Idx) : Prop := (y 0).val < h ∧ ((y 1).val < n ∨ ((y 1).val < n + 16 ∧ (y 0).val < j))

/-- A buffer filled so far. -/
def fill (d : Dev nD) (i : grid1.Coords) (buf : Memref sig .scVector .vmem S8x4096 .f32) (val : S8x4096.Idx → Elt F .f32) (h n j : ℕ) : sProp 𝕄 :=
  iprop(∃ g, ⌜∀ y, Done h n j y → buf.view.read (Elt F) g y = val y⌝ ∗ (buf.view.loc (thr d i) ↦[Finset.univ]{fullShare} g))

/-- The place in the buffer of lane `x` of the row step at row `r`, column `n`. -/
theorem lane_place {n r : ℕ} {o : Fin 2 → ℕ} (inb : ∀ a, o a + S1x16.size a ≤ S8x4096.size a) (ho : o = ![r, n]) (y : S8x4096.Idx)
    (h0 : (y 0).val = r) (h1 : n ≤ (y 1).val) (h2 : (y 1).val < n + 16) :
    (Rect.unit (s := S8x4096) o S1x16.size inb).emb (lane1 (lane ((y 1).val - n) (by omega))) = y := by
  subst ho
  refine Rect.emb_eq_of_coords _ _ _ fun a => ?_
  fin_cases a
  · show (y 0).val = r + 1 * 0; omega
  · show (y 1).val = n + 1 * ((y 1).val - n); omega

/-- A row step's index vector, lane by lane, from the indices in the row. -/
theorem Row.lanes_toNat {n : ℕ} (R : Row n) (iv : S8x4096.Idx → BitVec 32) (D : ℕ) (hD : D < 10) (hw : R.w.toNat = D)
    (hiv : ∀ y : S8x4096.Idx, (y 0).val = R.r → (iv y).toNat < 100) (x : S16.Idx) :
    ∃ y : S8x4096.Idx, (y 0).val = R.r ∧ (y 1).val = n + (x 0).val ∧ y = (Rect.unit (s := S8x4096) R.o S1x16.size R.inb).emb (lane1 x)
      ∧ (R.lanes (F := F) (fun z => iv ((Rect.unit (s := S8x4096) R.o S1x16.size R.inb).emb z)) x).toNat = (iv y).toNat + 100 * D := by
  have e0 : ∀ y : S8x4096.Idx, y = (Rect.unit (s := S8x4096) R.o S1x16.size R.inb).emb (lane1 x) →
      (y 0).val = R.r ∧ (y 1).val = n + (x 0).val := by
    rintro y rfl
    constructor
    · show R.o 0 + 1 * 0 = R.r; rw [R.ho]; rfl
    · show R.o 1 + 1 * (x 0).val = _; rw [R.ho]; show n + _ = _; omega
  refine ⟨_, (e0 _ rfl).1, (e0 _ rfl).2, rfl, ?_⟩
  have hb := hiv _ (e0 _ rfl).1
  have hx : shapeCast S16 (fun z => iv ((Rect.unit (s := S8x4096) R.o S1x16.size R.inb).emb z)) shapeCasts_S1x16_S16 x
      = iv ((Rect.unit (s := S8x4096) R.o S1x16.size R.inb).emb (lane1 x)) :=
    shapeCast_dropUnit_apply ![16] _ _ _
  show (shapeCast S16 (fun z => iv ((Rect.unit (s := S8x4096) R.o S1x16.size R.inb).emb z)) shapeCasts_S1x16_S16 x + R.w * 100#32).toNat = _
  rw [hx, BitVec.toNat_add, BitVec.toNat_mul, hw]
  show (_ + (D * 100) % 2 ^ 32) % 2 ^ 32 = _
  omega

/-- A row step's index vector is in range for the table. -/
theorem Row.lanes_ok {n : ℕ} (R : Row n) (iv : S8x4096.Idx → BitVec 32) (D : ℕ) (hD : D < 10) (hw : R.w.toNat = D)
    (hiv : ∀ y : S8x4096.Idx, (y 0).val = R.r → (iv y).toNat < 100) :
    ∀ a x, ((![R.lanes (F := F) (fun z => iv ((Rect.unit (s := S8x4096) R.o S1x16.size R.inb).emb z))] : Fin 1 → IVec S16 32) a x).toNat < S1000.size a := by
  intro a x
  obtain rfl : a = 0 := Subsingleton.elim _ _
  obtain ⟨y, hy0, -, -, hy⟩ := R.lanes_toNat (F := F) iv D hD hw hiv x
  have := hiv y hy0
  refine lt_of_eq_of_lt hy ?_
  show _ < 1000
  omega

/-- The sixteen values a row step gathers. -/
theorem Row.gathered {n : ℕ} (R : Row n) (tv : S1000.Idx → Elt F .f32) (iv : S8x4096.Idx → BitVec 32) (D : ℕ) (hD : D < 10) (hw : R.w.toNat = D)
    (hiv : ∀ y : S8x4096.Idx, (y 0).val = R.r → (iv y).toNat < 100)
    (hok : ∀ a x, ((![R.lanes (F := F) (fun z => iv ((Rect.unit (s := S8x4096) R.o S1x16.size R.inb).emb z))] : Fin 1 → IVec S16 32) a x).toNat < S1000.size a)
    (y : S8x4096.Idx) (h0 : (y 0).val = R.r) (h1 : n ≤ (y 1).val) (h2 : (y 1).val < n + 16) :
    loadIdx (F := F) (e := .f32) tv ![R.lanes (F := F) (fun z => iv ((Rect.unit (s := S8x4096) R.o S1x16.size R.inb).emb z))] hok (lane ((y 1).val - n) (by omega))
      = unitVal (F := F) tv iv D y := by
  obtain ⟨y', -, -, hy', hv'⟩ := R.lanes_toNat (F := F) iv D hD hw hiv (lane ((y 1).val - n) (by omega))
  obtain rfl : y' = y := hy'.trans (lane_place R.inb R.ho y h0 h1 h2)
  have hlt := hiv y' h0
  refine congrArg tv (funext fun a => ?_)
  obtain rfl : a = 0 := Subsingleton.elim _ _
  refine Fin.ext (hv'.trans ?_)
  show _ = ((iv y').toNat + 100 * D) % 1000
  omega

/-- What a buffer holds after a row step's store. -/
theorem row_fill {n r : ℕ} {o : Fin 2 → ℕ} (inb : ∀ a, o a + S1x16.size a ≤ S8x4096.size a) (ho : o = ![r, n])
    (buf : Memref sig .scVector .vmem S8x4096 .f32) (val : S8x4096.Idx → Elt F .f32) (h : ℕ) (g : buf.view.ty.Contents (Elt F))
    (hg : ∀ y, Done h n r y → buf.view.read (Elt F) g y = val y) (G : S16.Idx → Elt F .f32)
    (hG : ∀ (y : S8x4096.Idx) (_ : (y 0).val = r) (_ : n ≤ (y 1).val) (_ : (y 1).val < n + 16), G (lane ((y 1).val - n) (by omega)) = val y) (y : S8x4096.Idx)
    (hy : Done h n (r + 1) y) :
    buf.view.read (Elt F) (buf.view.writes (Elt F) g [⟨Rect.unit (s := S8x4096) o S1x16.size inb, shapeCast S1x16 G shapeCasts_S16_S1x16⟩]) y = val y := by
  by_cases hin : (y 0).val = r ∧ n ≤ (y 1).val ∧ (y 1).val < n + 16
  · obtain ⟨h0, h1, h2⟩ := hin
    rw [View.read_writes_cons_hit buf.view g _ _ [] _ y (lane_place inb ho y h0 h1 h2)]
    exact (shapeCast_addUnit_apply ![16] G shapeCasts_S16_S1x16 (lane1 (lane ((y 1).val - n) (by omega)))).trans (hG y h0 h1 h2)
  · have hmiss : y ∉ (Rect.unit (s := S8x4096) o S1x16.size inb).set := by
      by_cases h0 : (y 0).val = r
      · refine Rect.not_mem_set_of_axis _ y 1 n 16 (by show o 1 = n; rw [ho]; rfl) rfl rfl ?_
        by_contra hc
        exact hin ⟨h0, by omega, by omega⟩
      · refine Rect.not_mem_set_of_axis _ y 0 r 1 (by show o 0 = _; rw [ho]; rfl) rfl rfl ?_
        omega
    rw [View.read_writes_cons_miss buf.view g _ [] y hmiss]
    refine hg y ⟨hy.1, ?_⟩
    rcases hy.2 with h1 | ⟨h1, h2⟩
    · exact Or.inl h1
    · by_cases h3 : (y 1).val < n
      · exact Or.inl h3
      · exact Or.inr ⟨h1, by
          have : (y 0).val ≠ r := fun e => hin ⟨e, by omega, h1⟩
          omega⟩

variable (d : Dev nD) (i : grid1.Coords)

/-- A row step: the next row of the sixteen columns is filled. -/
theorem Row.wp {n : ℕ} (R : Row n) (buf : Memref sig .scVector .vmem S8x4096 .f32) (tv : S1000.Idx → Elt F .f32) (iv : S8x4096.Idx → BitVec 32)
    (D h : ℕ) (hD : D < 10) (hw : R.w.toNat = D) (hiv : ∀ y : S8x4096.Idx, (y 0).val = R.r → (iv y).toNat < 100) :
    iprop(((tabM).view.loc (thr d i) ↦[Finset.univ]{fullShare} tv) ∗ ((idxM).view.loc (thr d i) ↦[Finset.univ]{fullShare} iv) ∗ fill (F := F) d i buf (unitVal (F := F) tv iv D) h n R.r)
      ⊢ wp frame (wpE (defs₀ (F := F)) 𝒱₀ (thr d i) none) Set.univ (R.prog (F := F) i buf)
          fun _ => iprop(((tabM).view.loc (thr d i) ↦[Finset.univ]{fullShare} tv) ∗ ((idxM).view.loc (thr d i) ↦[Finset.univ]{fullShare} iv) ∗ fill (F := F) d i buf (unitVal (F := F) tv iv D) h n (R.r + 1)) := by
  unfold Row.prog fill
  simp only [Prog.lift, Prog.bind_op, Prog.bind_ret, Prog.pure_eq_ret]
  iintro ⟨Ht, Hi, ⟨%g, %hg, Hb⟩⟩
  iapply (wp_load (defs := defs₀ (F := F)) 𝒱₀ (thr d i) none Set.univ (m := idxM) (S := Finset.univ) (q := fullShare) (f := iv) (Finset.subset_univ _)) $$ [Hi]
  · iexact Hi
  iintro Hi
  have hld : (idxM).view.readAt (Elt F) (Rect.unit (s := S8x4096) R.o S1x16.size R.inb).toLoadRect iv
      = fun z => iv ((Rect.unit (s := S8x4096) R.o S1x16.size R.inb).emb z) := rfl
  rw [hld]
  have hchk := R.lanes_ok (F := F) iv D hD hw hiv
  iapply (Entails.of_eq (wp_assume_of (defs := defs₀ (F := F)) 𝒱₀ (thr d i) none Set.univ (R.Pof _ hchk)).symm)
  iapply (SparseCore.wp_vectorLoadIdx 𝒱₀ (thr d i) none Set.univ (base := tabM) (S := Finset.univ) (q := fullShare) (Finset.subset_univ _)) $$ [Ht]
  · iexact Ht
  iintro Ht
  iapply (wp_load 𝒱₀ (thr d i) none Set.univ (m := buf) (S := Finset.univ) (q := fullShare) (f := g) (Finset.subset_univ _)) $$ [Hb]
  · iexact Hb
  iintro Hb
  iapply (wp_store 𝒱₀ (thr d i) none Set.univ (m := buf) (S := Finset.univ) (f := g) (Finset.subset_univ _)) $$ [Hb]
  · iexact Hb
  iintro Hb
  rw [wp_ret]
  imodintro
  isplitl [Ht]; · iexact Ht
  isplitl [Hi]; · iexact Hi
  iexists _
  isplitr
  swap
  · iexact Hb
  ipureintro
  intro y hy
  rw [Memref.read_access_whole]
  exact row_fill R.inb' R.ho' buf _ h g hg _ (fun y h0 h1 h2 => R.gathered (F := F) tv iv D hD hw hiv hchk y h0 h1 h2) y hy

/-- What the row steps of a trip and the loop around them work in: the table, the index rows and the buffer being filled. -/
def Fill (buf : Memref sig .scVector .vmem S8x4096 .f32) (tv : S1000.Idx → Elt F .f32) (iv : S8x4096.Idx → BitVec 32) (D h n j : ℕ) : sProp 𝕄 :=
  iprop(((tabM).view.loc (thr d i) ↦[Finset.univ]{fullShare} tv) ∗ ((idxM).view.loc (thr d i) ↦[Finset.univ]{fullShare} iv) ∗ fill (F := F) d i buf (unitVal (F := F) tv iv D) h n j)

/-- A trip's row steps, in order: the rows they name are filled. -/
theorem trip_wp {n : ℕ} (buf : Memref sig .scVector .vmem S8x4096 .f32) (tv : S1000.Idx → Elt F .f32) (iv : S8x4096.Idx → BitVec 32)
    (D h : ℕ) (hD : D < 10) (hiv : ∀ y : S8x4096.Idx, (y 0).val < h → (iv y).toNat < 100) (Rs : List (Row n)) :
    ∀ (j : ℕ) (_ : Rs.map Row.r = List.range' j Rs.length) (_ : ∀ R ∈ Rs, R.w.toNat = D) (_ : j + Rs.length ≤ h),
    Fill (F := F) d i buf tv iv D h n j
      ⊢ wp frame (wpE (defs₀ (F := F)) 𝒱₀ (thr d i) none) Set.univ (trip (F := F) i buf Rs)
          fun _ => Fill (F := F) d i buf tv iv D h n (j + Rs.length) := by
  induction Rs with
  | nil =>
    intro j _ _ _
    unfold trip
    rw [Prog.pure_eq_ret, wp_ret]
    iintro H
    imodintro
    iexact H
  | cons R Rs ih =>
    intro j hr hw hh
    rw [List.map_cons, List.length_cons, List.range'_succ, List.cons.injEq] at hr
    rw [List.length_cons] at hh
    obtain ⟨rfl, hr⟩ := hr
    unfold trip
    rw [wp_bind]
    refine (R.wp (F := F) d i buf tv iv D h hD (hw R (List.mem_cons_self ..)) (fun y hy => hiv y (by omega))).trans ?_
    refine wp_mono _ _ _ fun _ => ?_
    rw [List.length_cons, show R.r + (Rs.length + 1) = R.r + 1 + Rs.length by omega]
    exact ih (R.r + 1) hr (fun R' h' => hw R' (List.mem_cons_of_mem _ h')) (by omega)

/-- After the last row of a trip the next sixteen columns are filled. -/
theorem Fill_next (buf : Memref sig .scVector .vmem S8x4096 .f32) (tv : S1000.Idx → Elt F .f32) (iv : S8x4096.Idx → BitVec 32) (D h n : ℕ) :
    Fill (F := F) d i buf tv iv D h n h ⊢ Fill (F := F) d i buf tv iv D h (n + 16) 0 := by
  unfold Fill fill
  iintro ⟨Ht, Hi, %g, %hg, Hb⟩
  isplitl [Ht]; · iexact Ht
  isplitl [Hi]; · iexact Hi
  iexists g
  isplitr
  · ipureintro
    rintro y ⟨h0, h1⟩
    exact hg y ⟨h0, by omega⟩
  iexact Hb

/-- A unit's loop over the columns: every row below `h` of the buffer is filled. -/
theorem loop_wp (buf : Memref sig .scVector .vmem S8x4096 .f32) (tv : S1000.Idx → Elt F .f32) (iv : S8x4096.Idx → BitVec 32)
    (D h : ℕ) (hD : D < 10) (hiv : ∀ y : S8x4096.Idx, (y 0).val < h → (iv y).toNat < 100)
    (lb ub st : BitVec 32) (hok : Scf.OK lb ub st) (hN : Scf.trips lb ub st = 256)
    (body : Fin (Scf.trips lb ub st) → Unit → Prog (TpuEff nD τ sig (Elt F) Λ₀ (.scVector ((i 0).castLE hcore1) ((i 1).castLE hsub1))) Unit)
    (rows : (k : Fin (Scf.trips lb ub st)) → List (Row (16 * k.val))) (hbody : ∀ k u, body k u = trip (F := F) i buf (rows k))
    (hr : ∀ k, (rows k).map Row.r = List.range' 0 h) (hw : ∀ k, ∀ R ∈ rows k, R.w.toNat = D)
    {β : Type} {kk : Unit → Prog (TpuEff nD τ sig (Elt F) Λ₀ (.scVector ((i 0).castLE hcore1) ((i 1).castLE hsub1))) β} {Q : β → sProp 𝕄} :
    Fill (F := F) d i buf tv iv D h 0 0
      ⊢ iprop((Fill (F := F) d i buf tv iv D h 4096 0 -∗ wp frame (wpE (defs₀ (F := F)) 𝒱₀ (thr d i) none) Set.univ (kk ⟨⟩) Q)
          -∗ wp frame (wpE (defs₀ (F := F)) 𝒱₀ (thr d i) none) Set.univ (Scf.for lb ub st hok ⟨⟩ body >>= kk) Q) := by
  iintro HI HK
  iapply (Scf.wp_for_bind frame (wpE (defs₀ (F := F)) 𝒱₀ (thr d i) none) Set.univ lb ub st hok ⟨⟩ body
    (fun k _ => Fill (F := F) d i buf tv iv D h (16 * k) 0) (fun k acc => ?hb)) $$ [HI]
  case hb =>
    have hlen : (rows k).length = h := by have := congrArg List.length (hr k); rwa [List.length_map, List.length_range'] at this
    rw [hbody]
    refine (trip_wp (F := F) d i buf tv iv D h hD hiv (rows k) 0 (by rw [hr, hlen]) (hw k) (by omega)).trans ?_
    refine wp_mono _ _ _ fun _ => ?_
    rw [hlen, Nat.zero_add]
    exact Fill_next (F := F) d i buf tv iv D h (16 * k.val)
  · iexact HI
  iintro %acc HI
  rw [hN]
  iapply HK
  iexact HI

/-- Entering a unit's loop: nothing is filled yet, whatever the buffer holds. -/
theorem Fill_start (buf : Memref sig .scVector .vmem S8x4096 .f32) (tv : S1000.Idx → Elt F .f32) (iv : S8x4096.Idx → BitVec 32) (D h : ℕ)
    (g : Buf (Elt F) (buf.view.loc (thr d i))) :
    iprop(((tabM).view.loc (thr d i) ↦[Finset.univ]{fullShare} tv) ∗ ((idxM).view.loc (thr d i) ↦[Finset.univ]{fullShare} iv) ∗ (buf.view.loc (thr d i) ↦[Finset.univ]{fullShare} g))
      ⊢ Fill (F := F) d i buf tv iv D h 0 0 := by
  unfold Fill fill
  iintro ⟨Ht, Hi, Hb⟩
  isplitl [Ht]; · iexact Ht
  isplitl [Hi]; · iexact Hi
  iexists g
  isplitr
  · ipureintro
    rintro y ⟨h0, h1⟩
    omega
  iexact Hb

end Cert.Proof.K
-- ==== Proof.Trips.lean ====
/-
  The printed bodies of the five loops are trips of row steps: by unfolding.
-/
module

public import proofs.«01_k».proof.Proof.Rows

@[expose] public section

noncomputable section

namespace Cert.Proof.K

open Cert.KernelIdeal Cert.KernelIdeal.Gen

open Idealize.ShloMosaic Idealize.SL.Sem

variable {F : FTy → Type} [FloatOps F]

/-- The word of a trip's first column, as the kernel computes it. -/
def colW (t : ℕ) : Index := Scalar.indexCast (Scalar.muli (Scalar.addi 0#32 (Scalar.muli (Scf.iv 0#32 1#32 t) 1#32)) 16#32)

/-- It is sixteen times the trip. -/
theorem colW_eq (t : ℕ) (ht : t < 256) : (colW t).toNat = 16 * t := by
  revert t; decide +kernel

/-- The offsets of the row step at row `r` of trip `t`. -/
abbrev rowOff (r t : ℕ) : Fin 2 → ℕ := ![r, (colW t).toNat]

/-- Where trip `t` accesses row `r`: at lane group `16 t`. -/
theorem rowOff_eq (r t : ℕ) (ht : t < 256) : rowOff r t = ![r, 16 * t] := by rw [rowOff, colW_eq t ht]

/-- Those sixteen lanes lie within the buffer. -/
theorem rowOff_inb (r t : ℕ) (hr : r < 8) (ht : t < 256) : ∀ a, rowOff r t a + S1x16.size a ≤ S8x4096.size a := by
  rw [rowOff_eq r t ht]
  intro a; fin_cases a
  · show r + 1 ≤ 8; omega
  · show 16 * t + 16 ≤ 4096; omega

/-- The row step at row `r` of trip `t`, its word `w` and its printed check given. -/
def mkRow (t : ℕ) (ht : t < 256) (r : ℕ) (hr : r < 8) (w : BitVec 32) (P : IVec S16 32 → Prop) (dP : ∀ v, Decidable (P v))
    (hP : ∀ v, P v → ∀ a x, ((![v] : Fin 1 → IVec S16 32) a x).toNat < S1000.size a)
    (Pof : ∀ v, (∀ a x, ((![v] : Fin 1 → IVec S16 32) a x).toNat < S1000.size a) → P v) : Row (16 * t) where
  r := r
  o := rowOff r t
  inb := rowOff_inb r t hr ht
  o' := rowOff r t
  inb' := rowOff_inb r t hr ht
  w := w
  P := P
  dP := dP
  hP := hP
  Pof := Pof
  ho := rowOff_eq r t ht
  ho' := rowOff_eq r t ht

/-- The eight row steps of a trip whose checks stand alone, at the word `w`. -/
def rowsA (t : ℕ) (ht : t < 256) (w : BitVec 32) : List (Row (16 * t)) :=
  let mk (r : ℕ) (hr : r < 8) : Row (16 * t) := mkRow t ht r hr w k1_chk1 k1_chk1.dec (fun _ h => h) (fun _ h => h)
  [mk 0 (by decide), mk 1 (by decide), mk 2 (by decide), mk 3 (by decide), mk 4 (by decide), mk 5 (by decide), mk 6 (by decide), mk 7 (by decide)]

/-- The eight row steps of a trip of the guarded fourth unit; its last two compute their word `w'` anew. -/
def rowsB (i : grid1.Coords) (h1 : k1_cond1 i = 1#1) (t : ℕ) (ht : t < 256) (w w' : BitVec 32) : List (Row (16 * t)) :=
  let mk (r : ℕ) (hr : r < 8) (w : BitVec 32) : Row (16 * t) := mkRow t ht r hr w (k1_chk25 i) (k1_chk25.dec i) (fun _ h => h h1) (fun _ h _ => h)
  [mk 0 (by decide) w, mk 1 (by decide) w, mk 2 (by decide) w, mk 3 (by decide) w, mk 4 (by decide) w, mk 5 (by decide) w, mk 6 (by decide) w', mk 7 (by decide) w']

/-- The four row steps of a trip of the half unit; its last computes its word `w'` anew. -/
def rowsC (i : grid1.Coords) (h2 : k1_cond2 i = 1#1) (t : ℕ) (ht : t < 256) (w w' : BitVec 32) : List (Row (16 * t)) :=
  let mk (r : ℕ) (hr : r < 8) (w : BitVec 32) : Row (16 * t) := mkRow t ht r hr w (k1_chk33 i) (k1_chk33.dec i) (fun _ h => h h2) (fun _ h _ => h)
  [mk 0 (by decide) w, mk 1 (by decide) w, mk 2 (by decide) w, mk 3 (by decide) w']

/-- The floor division by twelve, as the kernel spells it. -/
def divW (x : BitVec 32) : BitVec 32 :=
  Scalar.select
    (Scalar.andi
      (Scalar.cmpi .ne (Scalar.subi (Scalar.extui (Scalar.cmpi .sgt x 0#32)) (Scalar.extui (Scalar.cmpi .slt x 0#32)) : BitVec 32)
        (Scalar.subi (Scalar.extui (Scalar.cmpi .sgt 12#32 0#32)) (Scalar.extui (Scalar.cmpi .slt 12#32 0#32)) : BitVec 32))
      (Scalar.cmpi .ne (Scalar.remsi x 12#32) 0#32))
    (Scalar.subi (Scalar.divsi x 12#32) 1#32) (Scalar.divsi x 12#32)

/-- The half unit's depth, as the kernel spells it. -/
def halfW (x : BitVec 32) : BitVec 32 := Scalar.select (Scalar.cmpi .slt x 2#32) (Scalar.addi x 8#32) (Scalar.subi x 24#32)

variable (i : grid1.Coords)
  (arg2 : Memref sig .scVector .hbm S100x4096 .i32) (harg2 : arg2.IsWhole) (arg3 : Memref sig .scVector .hbm S1000 .f32) (harg3 : arg3.IsWhole)
  (arg4 : Memref sig .scVector .hbm S10x100x4096 .f32) (harg4 : arg4.IsWhole)
  (h5 : (Memref.whole cc1_scratch0 : Memref sig .scVector .vmem S1000 .f32).IsWhole) (h6 : (Memref.whole cc1_scratch1 : Memref sig .scVector .vmem S8x4096 .i32).IsWhole)
  (arg7 : Memref sig .scVector .vmem S8x4096 .f32) (harg7 : arg7.IsWhole) (arg8 : Memref sig .scVector .vmem S8x4096 .f32) (harg8 : arg8.IsWhole)
  (arg9 arg10 r0 r1 r2 r3 r4 r5 r6 r7 : DmaSems sig S_)

set_option maxRecDepth 65536 in
set_option maxHeartbeats 4000000 in
/-- The first unit's loop body. -/
theorem t1_body (v1 v18 : BitVec 32) (k : Fin k1_t1_loop.trips) (hk : k.val < 256) (u : Unit) :
    k1_t1_body (F := F) i arg2 harg2 arg3 harg3 arg4 harg4 (Memref.whole cc1_scratch0) h5 (Memref.whole cc1_scratch1) h6 arg7 harg7 arg8 harg8 arg9 arg10 r0 r1 r2 r3 r4 r5 r6 r7 v1 v18 k u
      = trip (F := F) i arg7 (rowsA k.val hk v18) := rfl

set_option maxRecDepth 65536 in
set_option maxHeartbeats 4000000 in
/-- The second unit's. -/
theorem t2_body (v1 v53 : BitVec 32) (k : Fin k1_t2_loop.trips) (hk : k.val < 256) (u : Unit) :
    k1_t2_body (F := F) i arg2 harg2 arg3 harg3 arg4 harg4 (Memref.whole cc1_scratch0) h5 (Memref.whole cc1_scratch1) h6 arg7 harg7 arg8 harg8 arg9 arg10 r0 r1 r2 r3 r4 r5 r6 r7 v1 v53 k u
      = trip (F := F) i arg8 (rowsA k.val hk v53) := rfl

set_option maxRecDepth 65536 in
set_option maxHeartbeats 4000000 in
/-- The third unit's. -/
theorem t3_body (v1 v92 v94 v95 : BitVec 32) (k : Fin k1_t3_loop.trips) (hk : k.val < 256) (u : Unit) :
    k1_t3_body (F := F) i arg2 harg2 arg3 harg3 arg4 harg4 (Memref.whole cc1_scratch0) h5 (Memref.whole cc1_scratch1) h6 arg7 harg7 arg8 harg8 arg9 arg10 r0 r1 r2 r3 r4 r5 r6 r7 v1 v92 v94 v95 k u
      = trip (F := F) i arg7 (rowsA k.val hk v92) := rfl

set_option maxRecDepth 65536 in
set_option maxHeartbeats 4000000 in
/-- The guarded fourth unit's. -/
theorem t4_body (v1 v143 : BitVec 32) (h1 : k1_cond1 i = 1#1) (k : Fin k1_t4_loop.trips) (hk : k.val < 256) (u : Unit) :
    k1_t4_body (F := F) i arg2 harg2 arg3 harg3 arg4 harg4 (Memref.whole cc1_scratch0) h5 (Memref.whole cc1_scratch1) h6 arg7 harg7 arg8 harg8 arg9 arg10 r0 r1 r2 r3 r4 r5 r6 r7 v1 h1 v143 k u
      = trip (F := F) i arg8 (rowsB i h1 k.val hk v143 (divW (Scalar.addi 96#32 v1))) := rfl

set_option maxRecDepth 65536 in
set_option maxHeartbeats 4000000 in
/-- The half unit's. -/
theorem t5_body (v1 v129 : BitVec 32) (h2 : k1_cond2 i = 1#1) (k : Fin k1_t5_loop.trips) (hk : k.val < 256) (u : Unit) :
    k1_t5_body (F := F) i arg2 harg2 arg3 harg3 arg4 harg4 (Memref.whole cc1_scratch0) h5 (Memref.whole cc1_scratch1) h6 arg7 harg7 arg8 harg8 arg9 arg10 r0 r1 r2 r3 r4 r5 r6 r7 v1 h2 v129 k u
      = trip (F := F) i arg7 (rowsC i h2 k.val hk v129 (halfW v1)) := rfl

end Cert.Proof.K
-- ==== Proof.Words.lean ====
/-
  The words the tile kernel computes from its grid coordinates, in closed form: the depths of its units, the offsets of its
  copies and the truth of its two guards, all in the tile's number.
-/
module

public import proofs.«01_k».proof.Proof.Trips

@[expose] public section

noncomputable section

namespace Cert.Proof.K

open Cert.KernelIdeal Cert.KernelIdeal.Gen

open Idealize.ShloMosaic
open Idealize.SL Idealize.SL.BI

/-- The tile's number among the thirty-two. -/
def wid (i : grid1.Coords) : ℕ := 2 * (i 1).val + (i 0).val

/-- The tile's number as the kernel computes it. -/
def widW (i : grid1.Coords) : BitVec 32 := Scalar.addi (Scalar.muli (BitVec.ofNat 32 (i 1).val) 2#32) (BitVec.ofNat 32 (i 0).val)

/-- The depth of the half unit of tile `w`. -/
def halfD (w : ℕ) : ℕ := if w < 2 then w + 8 else w - 24

/-- There are thirty-two tiles. -/
theorem wid_lt (i : grid1.Coords) : wid i < 32 := by
  have h0 := (i 0).isLt; have h1 := (i 1).isLt
  change (i 0).val < 2 at h0; change (i 1).val < 16 at h1
  unfold wid; omega

/-- The first unit's depth. -/
theorem div_0 : ∀ i : grid1.Coords, (divW (widW i)).toNat = wid i / 12 := by decide +kernel
/-- The second unit's. -/
theorem div_32 : ∀ i : grid1.Coords, (divW (Scalar.addi 32#32 (widW i))).toNat = (wid i + 32) / 12 := by decide +kernel
/-- The third unit's. -/
theorem div_64 : ∀ i : grid1.Coords, (divW (Scalar.addi 64#32 (widW i))).toNat = (wid i + 64) / 12 := by decide +kernel
/-- The guarded fourth unit's. -/
theorem div_96 : ∀ i : grid1.Coords, (divW (Scalar.addi 96#32 (widW i))).toNat = (wid i + 96) / 12 := by decide +kernel
/-- The half unit's depth, under its guard. -/
theorem half_eq : ∀ i : grid1.Coords, k1_cond2 i = 1#1 → (halfW (widW i)).toNat = halfD (wid i) := by decide +kernel

/-- The first guard: there is a fourth unit. -/
theorem cond1_iff : ∀ i : grid1.Coords, k1_cond1 i = 1#1 ↔ wid i < 24 := by decide +kernel
/-- The second guard: there is a half unit. -/
theorem cond2_iff : ∀ i : grid1.Coords, k1_cond2 i = 1#1 ↔ (wid i < 2 ∨ 24 ≤ wid i) := by decide +kernel

/-- Where the copies of the index rows start. -/
theorem off1_eq : ∀ i : grid1.Coords, k1_off1 i = ![wid i % 12 * 8, 0] := by decide +kernel
/-- The index rows of a tile's second unit. -/
theorem off19_32 : ∀ i : grid1.Coords, k1_off19 i 32#32 = ![(wid i + 32) % 12 * 8, 0] := by decide +kernel
/-- The index rows of a tile's third unit. -/
theorem off19_64 : ∀ i : grid1.Coords, k1_off19 i 64#32 = ![(wid i + 64) % 12 * 8, 0] := by decide +kernel
/-- The index rows of a tile's fourth unit. -/
theorem off53_eq : ∀ i : grid1.Coords, k1_off53 i = ![(wid i + 96) % 12 * 8, 0] := by decide +kernel
/-- Where the copies of the filled blocks end. -/
theorem off18_eq : ∀ i : grid1.Coords, k1_off18 i = ![wid i / 12, wid i % 12 * 8, 0] := by decide +kernel
/-- Where a tile's second unit lies in the output. -/
theorem off36_32 : ∀ i : grid1.Coords, k1_off36 i 32#32 = ![(wid i + 32) / 12, (wid i + 32) % 12 * 8, 0] := by decide +kernel
/-- Where a tile's third unit lies in the output. -/
theorem off36_64 : ∀ i : grid1.Coords, k1_off36 i 64#32 = ![(wid i + 64) / 12, (wid i + 64) % 12 * 8, 0] := by decide +kernel
/-- Where a tile's fourth unit lies in the output. -/
theorem off70_eq : ∀ i : grid1.Coords, k1_off70 i = ![(wid i + 96) / 12, (wid i + 96) % 12 * 8, 0] := by decide +kernel
/-- Where a tile's half unit lies in the output. -/
theorem off79_eq : ∀ i : grid1.Coords, k1_cond2 i = 1#1 → k1_off79 i = ![halfD (wid i), 96, 0] := by decide +kernel

/-! ## Who writes what -/

/-- The rows `J` to `J + H` of depth `D`. -/
def box (D J H : ℕ) : Finset S10x100x4096.Idx := Finset.univ.filter fun y => (y 0).val = D ∧ J ≤ (y 1).val ∧ (y 1).val < J + H

/-- The number of the tile that writes an element of the result. -/
def owner (y : S10x100x4096.Idx) : ℕ :=
  if (y 1).val < 96 then ((y 0).val * 12 + (y 1).val / 8) % 32 else if (y 0).val < 8 then 24 + (y 0).val else (y 0).val - 8

/-- What tile `w` writes. -/
def tileSet (w : ℕ) : Finset S10x100x4096.Idx := Finset.univ.filter fun y => owner y = w

/-- The unit numbered `u`. -/
def unitBox (u : ℕ) : Finset S10x100x4096.Idx := box (u / 12) (u % 12 * 8) 8

/-- The fourth unit's elements, if there is one. -/
def box4 (w : ℕ) : Finset S10x100x4096.Idx := if w < 24 then unitBox (w + 96) else ∅

/-- The half unit's, if there is one. -/
def boxH (w : ℕ) : Finset S10x100x4096.Idx := if w < 2 ∨ 24 ≤ w then box (halfD w) 96 4 else ∅

/-- Which elements a box holds. -/
theorem mem_box {D J H : ℕ} {y : S10x100x4096.Idx} : y ∈ box D J H ↔ (y 0).val = D ∧ J ≤ (y 1).val ∧ (y 1).val < J + H := by
  unfold box; rw [Finset.mem_filter]; exact and_iff_right (Finset.mem_univ _)

/-- A tile's elements are those it owns. -/
theorem mem_tileSet {w : ℕ} {y : S10x100x4096.Idx} : y ∈ tileSet w ↔ owner y = w := by
  unfold tileSet; rw [Finset.mem_filter]; exact and_iff_right (Finset.mem_univ _)

/-- A tile's fourth unit, where it has one. -/
theorem mem_box4 {w : ℕ} {y : S10x100x4096.Idx} : y ∈ box4 w ↔ w < 24 ∧ y ∈ unitBox (w + 96) := by
  unfold box4; split_ifs with h
  · exact (and_iff_right h).symm
  · exact ⟨fun hy => absurd hy (Finset.notMem_empty _), fun hy => absurd hy.1 h⟩

/-- A tile's half unit, where it has one. -/
theorem mem_boxH {w : ℕ} {y : S10x100x4096.Idx} : y ∈ boxH w ↔ (w < 2 ∨ 24 ≤ w) ∧ y ∈ box (halfD w) 96 4 := by
  unfold boxH; split_ifs with h
  · exact (and_iff_right h).symm
  · exact ⟨fun hy => absurd hy (Finset.notMem_empty _), fun hy => absurd hy.1 h⟩

/-- The bounds of an output coordinate. -/
theorem coord_lt (y : S10x100x4096.Idx) : (y 0).val < 10 ∧ (y 1).val < 100 ∧ (y 2).val < 4096 := ⟨(y 0).isLt, (y 1).isLt, (y 2).isLt⟩

/-- Which elements a unit holds. -/
theorem mem_unitBox {u : ℕ} {y : S10x100x4096.Idx} : y ∈ unitBox u ↔ (y 1).val < 96 ∧ (y 0).val * 12 + (y 1).val / 8 = u := by
  unfold unitBox; rw [mem_box]; omega

/-- A tile's elements are its three units', its guarded fourth's and its half's. -/
theorem tileSet_eq (w : ℕ) (hw : w < 32) :
    tileSet w = unitBox w ∪ (unitBox (w + 32) ∪ (unitBox (w + 64) ∪ (box4 w ∪ boxH w))) := by
  ext y
  obtain ⟨h0, h1, -⟩ := coord_lt y
  simp only [mem_tileSet, Finset.mem_union, mem_box4, mem_boxH, mem_unitBox, mem_box, owner, halfD]
  split_ifs <;> omega

/-- The first unit's elements are no other's, -/
theorem disj_1 (w : ℕ) : Disjoint (unitBox w) (unitBox (w + 32) ∪ (unitBox (w + 64) ∪ (box4 w ∪ boxH w))) := by
  rw [Finset.disjoint_left]; intro y
  simp only [Finset.mem_union, mem_box4, mem_boxH, mem_unitBox, mem_box]; omega
/-- nor the second's, -/
theorem disj_2 (w : ℕ) : Disjoint (unitBox (w + 32)) (unitBox (w + 64) ∪ (box4 w ∪ boxH w)) := by
  rw [Finset.disjoint_left]; intro y
  simp only [Finset.mem_union, mem_box4, mem_boxH, mem_unitBox, mem_box]; omega
/-- nor the third's, -/
theorem disj_3 (w : ℕ) : Disjoint (unitBox (w + 64)) (box4 w ∪ boxH w) := by
  rw [Finset.disjoint_left]; intro y
  simp only [Finset.mem_union, mem_box4, mem_boxH, mem_unitBox, mem_box]; omega
/-- nor the fourth's. -/
theorem disj_4 (w : ℕ) : Disjoint (box4 w) (boxH w) := by
  rw [Finset.disjoint_left]; intro y
  simp only [mem_box4, mem_boxH, mem_unitBox, mem_box]; omega

/-- Every element has an owner among the thirty-two. -/
theorem owner_lt (y : S10x100x4096.Idx) : owner y < 32 := by
  obtain ⟨h0, h1, -⟩ := coord_lt y
  unfold owner; split_ifs <;> omega

end Cert.Proof.K
-- ==== Proof.Vals.lean ====
/-
  What the tile kernel's copies carry: the index rows of a unit, the block of the result a filled buffer becomes.
-/
module

public import proofs.«01_k».proof.Proof.Words

@[expose] public section

noncomputable section

namespace Cert.Proof.K

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

local notation "ixM" => (Memref.whole main_v1_scv : Memref sig Kind.scVector Space.hbm S100x4096 EltTy.i32)
local notation "otM" => (Memref.whole main_v4_scv : Memref sig Kind.scVector Space.hbm S10x100x4096 EltTy.f32)
local notation "idxM" => (Memref.whole cc1_scratch1 : Memref sig Kind.scVector Space.vmem S8x4096 EltTy.i32)

/-- Row `a`, column `b` of the index table. -/
def jb (a b : ℕ) : S100x4096.Idx := Shape.pair (d := ![100, 4096]) ⟨a % 100, Nat.mod_lt _ (by decide)⟩ ⟨b % 4096, Nat.mod_lt _ (by decide)⟩

/-- Eight rows of the index table from row `J`. -/
def rowsOf (J : ℕ) (ix : S100x4096.Idx → BitVec 32) (x : S8x4096.Idx) : BitVec 32 := ix (jb (J + (x 0).val) (x 1).val)

/-- The result, element by element: the table's entry of the element's depth at the element's index. -/
def outV (ix : S100x4096.Idx → BitVec 32) (tv : S1000.Idx → Elt F .f32) (y : S10x100x4096.Idx) : Elt F .f32 :=
  tv (ix1000 ((ix (jb (y 1).val (y 2).val)).toNat + 100 * (y 0).val))

/-- The eight rows of the result a copy at offset `o` ends in. -/
abbrev out8 (o : Fin 3 → ℕ) (h : ∀ a, o a + S1x8x4096.size a ≤ S10x100x4096.size a) : Memref sig Kind.scVector Space.hbm S8x4096 EltTy.f32 :=
  ((otM).slice (Rect.unit (s := S10x100x4096) o S1x8x4096.size h) (fun _ => rfl)).squeeze S8x4096 squeezes_S1x8x4096_S8x4096

/-- The four rows of the result a copy at offset `o` ends in. -/
abbrev out4 (o : Fin 3 → ℕ) (h : ∀ a, o a + S1x4x4096.size a ≤ S10x100x4096.size a) : Memref sig Kind.scVector Space.hbm S4x4096 EltTy.f32 :=
  ((otM).slice (Rect.unit (s := S10x100x4096) o S1x4x4096.size h) (fun _ => rfl)).squeeze S4x4096 squeezes_S1x4x4096_S4x4096

/-- Placing an index of a box of the result. -/
theorem place3 {o : Fin 3 → ℕ} {H D J : ℕ} (ho : o = ![D, J, 0]) (sz : Fin 3 → ℕ) (hsz : sz = ![1, H, 4096])
    (h : ∀ a, o a + sz a ≤ S10x100x4096.size a) (x : (⟨2, ![H, 4096]⟩ : Shape).Idx) (z : (⟨3, sz⟩ : Shape).Idx)
    (hz : (z 0).val = 0 ∧ (z 1).val = (x 0).val ∧ (z 2).val = (x 1).val) :
    (((Rect.unit (s := S10x100x4096) o sz h).emb z) 0).val = D ∧ (((Rect.unit (s := S10x100x4096) o sz h).emb z) 1).val = J + (x 0).val
      ∧ (((Rect.unit (s := S10x100x4096) o sz h).emb z) 2).val = (x 1).val := by
  subst ho
  refine ⟨?_, ?_, ?_⟩
  · show D + 1 * (z 0).val = D; omega
  · show J + 1 * (z 1).val = _; omega
  · show 0 + 1 * (z 2).val = _; omega

/-- Where an eight-row block of the output lies in it. -/
theorem emb8 {o : Fin 3 → ℕ} {D J : ℕ} (ho : o = ![D, J, 0]) (h : ∀ a, o a + S1x8x4096.size a ≤ S10x100x4096.size a) (x : S8x4096.Idx) :
    (((out8 o h).view.emb x : S10x100x4096.Idx) 0).val = D ∧ (((out8 o h).view.emb x : S10x100x4096.Idx) 1).val = J + (x 0).val
      ∧ (((out8 o h).view.emb x : S10x100x4096.Idx) 2).val = (x 1).val := by
  have e : Shape.reshapeEquiv (squeezes_S1x8x4096_S8x4096.numel_eq) x = Fin.cons ⟨0, Nat.one_pos⟩ x :=
    Shape.reshapeEquiv_cons_one (n := 2) (d := ![8, 4096]) _ x
  refine place3 (H := 8) ho S1x8x4096.size rfl h x (Shape.reshapeEquiv (squeezes_S1x8x4096_S8x4096.numel_eq) x) ?_
  rw [e]; exact ⟨rfl, rfl, rfl⟩

/-- Where a four-row block of the output lies in it. -/
theorem emb4 {o : Fin 3 → ℕ} {D J : ℕ} (ho : o = ![D, J, 0]) (h : ∀ a, o a + S1x4x4096.size a ≤ S10x100x4096.size a) (x : S4x4096.Idx) :
    (((out4 o h).view.emb x : S10x100x4096.Idx) 0).val = D ∧ (((out4 o h).view.emb x : S10x100x4096.Idx) 1).val = J + (x 0).val
      ∧ (((out4 o h).view.emb x : S10x100x4096.Idx) 2).val = (x 1).val := by
  have e : Shape.reshapeEquiv (squeezes_S1x4x4096_S4x4096.numel_eq) x = Fin.cons ⟨0, Nat.one_pos⟩ x :=
    Shape.reshapeEquiv_cons_one (n := 2) (d := ![4, 4096]) _ x
  refine place3 (H := 4) ho S1x4x4096.size rfl h x (Shape.reshapeEquiv (squeezes_S1x4x4096_S4x4096.numel_eq) x) ?_
  rw [e]; exact ⟨rfl, rfl, rfl⟩

/-- The elements a block of the output covers are a box. -/
theorem set_box {o : Fin 3 → ℕ} {H D J : ℕ} (ho : o = ![D, J, 0]) (sz : Fin 3 → ℕ) (hsz : sz = ![1, H, 4096])
    (h : ∀ a, o a + sz a ≤ S10x100x4096.size a) : (Rect.unit (s := S10x100x4096) o sz h).set = box D J H := by
  subst ho; subst hsz
  ext y
  rw [Rect.mem_set_unit, mem_box]
  obtain ⟨-, -, h2⟩ := coord_lt y
  constructor
  · intro hy
    have h0 := hy 0; have h1 := hy 1
    change D ≤ (y 0).val ∧ (y 0).val < D + 1 at h0
    change J ≤ (y 1).val ∧ (y 1).val < J + H at h1
    exact ⟨by omega, h1⟩
  · rintro ⟨h0, h1⟩ a
    fin_cases a
    · show D ≤ (y 0).val ∧ (y 0).val < D + 1; omega
    · exact h1
    · show 0 ≤ (y 2).val ∧ (y 2).val < 0 + 4096; omega

/-- An eight-row block covers the box of eight rows. -/
theorem set8 {o : Fin 3 → ℕ} {D J : ℕ} (ho : o = ![D, J, 0]) (h : ∀ a, o a + S1x8x4096.size a ≤ S10x100x4096.size a) :
    (out8 o h).view.set = box D J 8 := by
  refine (View.set_reshape _ _).trans ?_
  refine (View.set_slice_whole _ _).trans ?_
  exact set_box ho _ rfl h

/-- A four-row block covers the box of four rows. -/
theorem set4 {o : Fin 3 → ℕ} {D J : ℕ} (ho : o = ![D, J, 0]) (h : ∀ a, o a + S1x4x4096.size a ≤ S10x100x4096.size a) :
    (out4 o h).view.set = box D J 4 := by
  refine (View.set_reshape _ _).trans ?_
  refine (View.set_slice_whole _ _).trans ?_
  exact set_box ho _ rfl h

/-- The rows a copy of the index table fetches. -/
theorem fetch8 {o : Fin 2 → ℕ} {J : ℕ} (ho : o = ![J, 0]) (h : ∀ a, o a + S8x4096.size a ≤ S100x4096.size a) (ix : S100x4096.Idx → BitVec 32) (x : S8x4096.Idx) :
    (((ixM).slice (Rect.unit (s := S100x4096) o S8x4096.size h) (fun _ => rfl)).view.read (Elt F) ix : S8x4096.Idx → BitVec 32) x = rowsOf J ix x := by
  subst ho
  have h0 := h 0
  change J + 8 ≤ 100 at h0
  have hx0 : (x 0).val < 8 := (x 0).isLt
  have hx1 : (x 1).val < 4096 := (x 1).isLt
  refine congrArg ix (funext fun a => Fin.ext ?_)
  fin_cases a
  · show J + 1 * (x 0).val = (J + (x 0).val) % 100; omega
  · show 0 + 1 * (x 1).val = (x 1).val % 4096; omega

/-- The last four index rows, fetched, are those rows of the index array. -/
theorem fetch4 (h : ∀ a, (![96, 0] : Fin 2 → ℕ) a + S4x4096.size a ≤ S100x4096.size a) (ix : S100x4096.Idx → BitVec 32) (x : S4x4096.Idx) :
    (((ixM).slice (Rect.unit (s := S100x4096) ![96, 0] S4x4096.size h) (fun _ => rfl)).view.read (Elt F) ix : S4x4096.Idx → BitVec 32) x
      = ix (jb (96 + (x 0).val) (x 1).val) := by
  have hx0 : (x 0).val < 4 := (x 0).isLt
  have hx1 : (x 1).val < 4096 := (x 1).isLt
  refine congrArg ix (funext fun a => Fin.ext ?_)
  fin_cases a
  · show 96 + 1 * (x 0).val = (96 + (x 0).val) % 100; omega
  · show 0 + 1 * (x 1).val = (x 1).val % 4096; omega

/-- A unit's values are the result's over its rows. -/
theorem unit_out {D J : ℕ} (ix : S100x4096.Idx → BitVec 32) (tv : S1000.Idx → Elt F .f32) (iv : S8x4096.Idx → BitVec 32) (x : S8x4096.Idx)
    (hiv : iv x = rowsOf J ix x) (y : S10x100x4096.Idx) (hy : (y 0).val = D ∧ (y 1).val = J + (x 0).val ∧ (y 2).val = (x 1).val) :
    unitVal tv iv D x = outV ix tv y := by
  unfold unitVal outV
  rw [hiv, hy.1, hy.2.1, hy.2.2]; rfl

variable (d : Dev nD) (i : grid1.Coords)

/-- A write through a view, read where the view points. -/
theorem writes_whole_apply {κ : Kind} {sp : Space} {s : Shape} {e : EltTy} (v : View sig κ sp s e) (f : v.ty.Contents (Elt F)) (w : s.Idx → Elt F e) (x : s.Idx) :
    v.read (Elt F) (v.writes (Elt F) f [⟨Rect.whole s, w⟩]) x = w x := by
  rw [← View.write_univ_eq_writes_whole]
  exact congrFun (View.read_write_univ _ _) x

/-- A view's elements rewritten whole hold what the payload says. -/
theorem landed {sp : Space} {s : Shape} {e : EltTy} (b : Memref sig .scVector sp s e) (f g : b.view.ty.Contents (Elt F)) (w : s.Idx → Elt F e)
    (hw : ∀ x, w x = b.view.read (Elt F) g x) (q : PosShare TreeShare) :
    ((b.view.loc (thr d i) ↦[b.view.set]{q} b.view.writes (Elt F) f [⟨Rect.whole s, w⟩]) : sProp 𝕄) = (b.view.loc (thr d i) ↦[b.view.set]{q} g) := by
  refine pointsTo_congr fun y hy => ?_
  obtain ⟨x, -, rfl⟩ := Finset.mem_map.mp hy
  have h := (writes_whole_apply b.view f w x).trans (hw x)
  rw [View.read_apply, View.read_apply] at h
  exact (cast_inj _).mp h

/-- A block of the result by its view and by its rows. -/
theorem pts8 {o : Fin 3 → ℕ} {D J : ℕ} (ho : o = ![D, J, 0]) (h : ∀ a, o a + S1x8x4096.size a ≤ S10x100x4096.size a) (f : S10x100x4096.Idx → Elt F .f32) :
    (((out8 o h).view.loc (thr d i) ↦[(out8 o h).view.set]{fullShare} f) : sProp 𝕄) = ((otM).view.loc (thr d i) ↦[box D J 8]{fullShare} f) :=
  congrArg (fun S => ((otM).view.loc (thr d i) ↦[S]{fullShare} f : sProp 𝕄)) (set8 ho h)

/-- Owning a four-row block is owning its box. -/
theorem pts4 {o : Fin 3 → ℕ} {D J : ℕ} (ho : o = ![D, J, 0]) (h : ∀ a, o a + S1x4x4096.size a ≤ S10x100x4096.size a) (f : S10x100x4096.Idx → Elt F .f32) :
    (((out4 o h).view.loc (thr d i) ↦[(out4 o h).view.set]{fullShare} f) : sProp 𝕄) = ((otM).view.loc (thr d i) ↦[box D J 4]{fullShare} f) :=
  congrArg (fun S => ((otM).view.loc (thr d i) ↦[S]{fullShare} f : sProp 𝕄)) (set4 ho h)

/-- The gathered array, read through an eight-row block. -/
theorem read8 {o : Fin 3 → ℕ} {D J : ℕ} (ho : o = ![D, J, 0]) (h : ∀ a, o a + S1x8x4096.size a ≤ S10x100x4096.size a)
    (ix : S100x4096.Idx → BitVec 32) (tv : S1000.Idx → Elt F .f32) (x : S8x4096.Idx) :
    unitVal tv (rowsOf J ix) D x = (out8 o h).view.read (Elt F) (outV ix tv) x :=
  unit_out ix tv _ x rfl _ (emb8 ho h x)

/-- The gathered array, read through the last four-row block. -/
theorem read4 {o : Fin 3 → ℕ} {D : ℕ} (ho : o = ![D, 96, 0]) (h : ∀ a, o a + S1x4x4096.size a ≤ S10x100x4096.size a)
    (ix : S100x4096.Idx → BitVec 32) (tv : S1000.Idx → Elt F .f32) (x : S4x4096.Idx) :
    tv (ix1000 ((ix (jb (96 + (x 0).val) (x 1).val)).toNat + 100 * D)) = (out4 o h).view.read (Elt F) (outV ix tv) x := by
  obtain ⟨e0, e1, e2⟩ := emb4 ho h x
  show _ = outV ix tv ((out4 o h).view.emb x)
  unfold outV
  rw [e0, e1, e2]

end Cert.Proof.K
-- ==== Proof.Units.lean ====
/-
  The units of work a tile runs: the five loops over a buffer, and the two guarded units.
-/
module

public import proofs.«01_k».proof.Proof.Vals

@[expose] public section

noncomputable section

namespace Cert.Proof.K

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

local notation "ixM" => (Memref.whole main_v1_scv : Memref sig Kind.scVector Space.hbm S100x4096 EltTy.i32)
local notation "tbM" => (Memref.whole main_v3_scv : Memref sig Kind.scVector Space.hbm S1000 EltTy.f32)
local notation "otM" => (Memref.whole main_v4_scv : Memref sig Kind.scVector Space.hbm S10x100x4096 EltTy.f32)
local notation "tabM" => (Memref.whole cc1_scratch0 : Memref sig Kind.scVector Space.vmem S1000 EltTy.f32)
local notation "idxM" => (Memref.whole cc1_scratch1 : Memref sig Kind.scVector Space.vmem S8x4096 EltTy.i32)
local notation "bufA" => (Memref.whole cc1_scratch2 : Memref sig Kind.scVector Space.vmem S8x4096 EltTy.f32)
local notation "bufB" => (Memref.whole cc1_scratch3 : Memref sig Kind.scVector Space.vmem S8x4096 EltTy.f32)

/-- Loop 1 runs 256 trips. -/
theorem trips1 : k1_t1_loop.trips = 256 := by decide
/-- Loop 2 runs 256 trips. -/
theorem trips2 : k1_t2_loop.trips = 256 := by decide
/-- Loop 3 runs 256 trips. -/
theorem trips3 : k1_t3_loop.trips = 256 := by decide
/-- Loop 4 runs 256 trips. -/
theorem trips4 : k1_t4_loop.trips = 256 := by decide
/-- Loop 5 runs 256 trips. -/
theorem trips5 : k1_t5_loop.trips = 256 := by decide

/-- The eight rows of a trip of the first kind of loop all shift the index by the same word. -/
theorem rowsA_w (t : ℕ) (ht : t < 256) (w : BitVec 32) : ∀ R ∈ rowsA t ht w, R.w = w := by
  intro R hR
  simp only [rowsA, List.mem_cons, List.not_mem_nil, or_false] at hR
  rcases hR with rfl | rfl | rfl | rfl | rfl | rfl | rfl | rfl <;> rfl

/-- The same, for the loop of the fourth unit. -/
theorem rowsB_w (i : grid1.Coords) (h1 : k1_cond1 i = 1#1) (t : ℕ) (ht : t < 256) (w : BitVec 32) : ∀ R ∈ rowsB i h1 t ht w w, R.w = w := by
  intro R hR
  simp only [rowsB, List.mem_cons, List.not_mem_nil, or_false] at hR
  rcases hR with rfl | rfl | rfl | rfl | rfl | rfl | rfl | rfl <;> rfl

/-- The same, for the loop of the half unit. -/
theorem rowsC_w (i : grid1.Coords) (h2 : k1_cond2 i = 1#1) (t : ℕ) (ht : t < 256) (w : BitVec 32) : ∀ R ∈ rowsC i h2 t ht w w, R.w = w := by
  intro R hR
  simp only [rowsC, List.mem_cons, List.not_mem_nil, or_false] at hR
  rcases hR with rfl | rfl | rfl | rfl <;> rfl

/-- A unit's loop: from a buffer of any contents to one filled with the unit's values. -/
theorem unit_wp (d : Dev nD) (i : grid1.Coords) (buf : Memref sig .scVector .vmem S8x4096 .f32) (hs : buf.view.set = Finset.univ)
    (tv : S1000.Idx → Elt F .f32) (iv : S8x4096.Idx → BitVec 32)
    (D h : ℕ) (hD : D < 10) (hiv : ∀ y : S8x4096.Idx, (y 0).val < h → (iv y).toNat < 100)
    (lb ub st : BitVec 32) (hok : Scf.OK lb ub st) (hN : Scf.trips lb ub st = 256)
    (body : Fin (Scf.trips lb ub st) → Unit → Prog (TpuEff nD τ sig (Elt F) Λ₀ (.scVector ((i 0).castLE hcore1) ((i 1).castLE hsub1))) Unit)
    (rows : (k : Fin (Scf.trips lb ub st)) → List (Row (16 * k.val))) (hbody : ∀ k u, body k u = trip (F := F) i buf (rows k))
    (hr : ∀ k, (rows k).map Row.r = List.range' 0 h) (hw : ∀ k, ∀ R ∈ rows k, R.w.toNat = D)
    {β : Type} {kk : Unit → Prog (TpuEff nD τ sig (Elt F) Λ₀ (.scVector ((i 0).castLE hcore1) ((i 1).castLE hsub1))) β} {Q : β → sProp 𝕄}
    (g : Buf (Elt F) (buf.view.loc (thr d i))) :
    iprop(((tabM).view.loc (thr d i) ↦[(tabM).view.set]{fullShare} tv) ∗ ((idxM).view.loc (thr d i) ↦[(idxM).view.set]{fullShare} iv) ∗ (buf.view.loc (thr d i) ↦[buf.view.set]{fullShare} g))
      ⊢ iprop((iprop(∃ g, ⌜∀ y : S8x4096.Idx, (y 0).val < h → buf.view.read (Elt F) g y = unitVal tv iv D y⌝
            ∗ ((tabM).view.loc (thr d i) ↦[(tabM).view.set]{fullShare} tv) ∗ ((idxM).view.loc (thr d i) ↦[(idxM).view.set]{fullShare} iv)
            ∗ (buf.view.loc (thr d i) ↦[buf.view.set]{fullShare} g)) -∗ wp frame (wpE (defs₀ (F := F)) 𝒱₀ (thr d i) none) Set.univ (kk ⟨⟩) Q)
          -∗ wp frame (wpE (defs₀ (F := F)) 𝒱₀ (thr d i) none) Set.univ (Scf.for lb ub st hok ⟨⟩ body >>= kk) Q) := by
  rw [hs, View.set_whole, View.set_whole]
  refine (Fill_start (F := F) d i buf tv iv D h g).trans ?_
  iintro HF HK
  iapply (loop_wp (F := F) d i buf tv iv D h hD hiv lb ub st hok hN body rows hbody hr hw) $$ HF
  unfold Fill fill
  iintro ⟨Ht, Hi, %g', %hg, Hb⟩
  iapply HK
  iexists g'
  isplitr
  · ipureintro; exact fun y hy => hg y ⟨hy, Or.inl (y 1).isLt⟩
  isplitl [Ht]; · iexact Ht
  isplitl [Hi]; · iexact Hi
  iexact Hb

/-- A wait recorded at no launch's index. -/
theorem noneW {sl : SemLoc sig} {W : Waits sig (HIx 1)} {C : SemLoc sig × HIx 1 → Prop} {p : SemLoc sig × HIx 1}
    (hp : p ∈ insert (sl, (default : HIx 1)) W) (h : ∀ p ∈ W, C p ∨ p.2 = none) : C p ∨ p.2 = none := by
  rcases Finset.mem_insert.mp hp with rfl | hp
  · exact .inr rfl
  · exact h p hp

/-- The first four rows of the index buffer after the half unit's fetch. -/
theorem idx_half (iv : S8x4096.Idx → BitVec 32) (ix : S100x4096.Idx → BitVec 32) (w : S4x4096.Idx → BitVec 32)
    (hw : ∀ x, w x = ix (jb (96 + (x 0).val) (x 1).val)) (y : S8x4096.Idx) (hy : (y 0).val < 4) :
    ((idxM).view.writes (Elt F) iv [⟨Rect.unit (s := S8x4096) ![0, 0] S4x4096.size inb_S8x4096_S4x4096_0_0, w⟩] : S8x4096.Idx → BitVec 32) y
      = ix (jb (96 + (y 0).val) (y 1).val) := by
  have hy1 : (y 1).val < 4096 := (y 1).isLt
  let x : S4x4096.Idx := Shape.pair (d := ![4, 4096]) ⟨(y 0).val, hy⟩ ⟨(y 1).val, hy1⟩
  have h := View.read_writes_cons_hit_of_coords (Val := Elt F) (idxM).view iv (Rect.unit (s := S8x4096) ![0, 0] S4x4096.size inb_S8x4096_S4x4096_0_0)
    w [] x y (fun a => by
      fin_cases a
      · show (y 0).val = 0 + 1 * (y 0).val; omega
      · show (y 1).val = 0 + 1 * (y 1).val; omega)
  have hx := hw x
  rw [show (x 0).val = (y 0).val from rfl, show (x 1).val = (y 1).val from rfl] at hx
  exact (congrFun (View.read_whole (Val := Elt F) cc1_scratch1 ((idxM).view.writes (Elt F) iv
    [⟨Rect.unit (s := S8x4096) ![0, 0] S4x4096.size inb_S8x4096_S4x4096_0_0, w⟩])) y).symm.trans (h.trans hx)

/-- What the half unit's copy carries out. -/
theorem half_read {o : Fin 3 → ℕ} {D : ℕ} (ho : o = ![D, 96, 0]) (h : ∀ a, o a + S1x4x4096.size a ≤ S10x100x4096.size a)
    (ix : S100x4096.Idx → BitVec 32) (tv : S1000.Idx → Elt F .f32) (iv : S8x4096.Idx → BitVec 32) (g : S8x4096.Idx → Elt F .f32)
    (hiv : ∀ y : S8x4096.Idx, (y 0).val < 4 → iv y = ix (jb (96 + (y 0).val) (y 1).val))
    (hg : ∀ y : S8x4096.Idx, (y 0).val < 4 → (bufA).view.read (Elt F) g y = unitVal tv iv D y) (x : S4x4096.Idx) :
    ((bufA).slice (Rect.unit (s := S8x4096) ![0, 0] S4x4096.size inb_S8x4096_S4x4096_0_0) (fun _ => rfl)).view.read (Elt F) g x
      = (out4 o h).view.read (Elt F) (outV ix tv) x := by
  have hx0 : (x 0).val < 4 := (x 0).isLt
  have hx1 : (x 1).val < 4096 := (x 1).isLt
  let y : S8x4096.Idx := Shape.pair (d := ![8, 4096]) ⟨(x 0).val, Nat.lt_trans hx0 (by decide)⟩ ⟨(x 1).val, hx1⟩
  have he : ((bufA).slice (Rect.unit (s := S8x4096) ![0, 0] S4x4096.size inb_S8x4096_S4x4096_0_0) (fun _ => rfl)).view.emb x = y := by
    refine funext fun a => Fin.ext ?_
    fin_cases a
    · show 0 + 1 * (x 0).val = (x 0).val; omega
    · show 0 + 1 * (x 1).val = (x 1).val; omega
  refine Eq.trans (congrArg g he) ?_
  refine (hg y hx0).trans ?_
  unfold unitVal
  rw [hiv y hx0]
  exact read4 ho h ix tv x

/-- One branch of a conditional whose two ends meet at the same rest. -/
theorem branch_wp {α : Type} {c : Prop} [Decidable c] {R R' : sProp 𝕄} {thr : Thread nD τ} {Q : α → sProp 𝕄}
    (t : c → Prog (TpuEff nD τ sig (Elt F) Λ₀ thr.2) α) (e : Prog (TpuEff nD τ sig (Elt F) Λ₀ thr.2) α)
    (ht : ∀ h, iprop(R ∗ (R' -∗ wp frame (wpE (defs₀ (F := F)) 𝒱₀ thr none) Set.univ e Q)) ⊢ wp frame (wpE (defs₀ (F := F)) 𝒱₀ thr none) Set.univ (t h) Q)
    (he : ¬c → R ⊢ R') :
    iprop(R ∗ (R' -∗ wp frame (wpE (defs₀ (F := F)) 𝒱₀ thr none) Set.univ e Q)) ⊢ wp frame (wpE (defs₀ (F := F)) 𝒱₀ thr none) Set.univ (dite c t fun _ => e) Q := by
  by_cases h : c
  · rw [dif_pos h]; exact ht h
  · rw [dif_neg h]
    iintro ⟨HR, HK⟩
    iapply HK
    iapply (he h)
    iexact HR

variable (d : Dev nD) (i : grid1.Coords)

/-- What the tile holds of a memref's own elements. -/
local notation "ow(" m ", " f ")" => (View.loc (thr d i) (Memref.view m) ↦[View.set (Memref.view m)]{fullShare} f)

/-- A semaphore of the tile at zero. -/
local notation "sv(" s ")" => semVal (thr d i, SemLoc.dma (SemArray.sem s)) 0

/-- What the guarded fourth unit runs from. -/
def R1 (q : PosShare TreeShare) (ix : S100x4096.Idx → BitVec 32) (tv : S1000.Idx → Elt F .f32) (iv : S8x4096.Idx → BitVec 32)
    (g : S8x4096.Idx → Elt F .f32) (f4 : S10x100x4096.Idx → Elt F .f32) (O : CellTallies nD τ sig (HIx 1)) (W : Waits sig (HIx 1)) : sProp 𝕄 :=
  iprop(Transfers.MayWaits (thr d i) (default : HIx 1) O ∗ ((ixM).view.loc (thr d i) ↦{q} ix)
    ∗ ow(tabM, tv) ∗ ow(idxM, iv) ∗ ow(bufB, g) ∗ ((otM).view.loc (thr d i) ↦[box4 (wid i)]{fullShare} f4)
    ∗ sv(cc1_scoped4) ∗ sv(cc1_scoped5) ∗ owes (thr d i) O W)

/-- What it leaves. -/
def R1' (q : PosShare TreeShare) (ix : S100x4096.Idx → BitVec 32) (tv : S1000.Idx → Elt F .f32)
    (O : CellTallies nD τ sig (HIx 1)) (W : Waits sig (HIx 1)) : sProp 𝕄 :=
  iprop(((ixM).view.loc (thr d i) ↦{q} ix)
    ∗ ow(tabM, tv) ∗ (∃ f, ow(idxM, f)) ∗ (∃ f, ow(bufB, f)) ∗ ((otM).view.loc (thr d i) ↦[box4 (wid i)]{fullShare} outV ix tv)
    ∗ sv(cc1_scoped4) ∗ sv(cc1_scoped5) ∗ ∃ W', ⌜∀ p ∈ W', p ∈ W ∨ p.2 = none⌝ ∗ owes (thr d i) O W')

/-- The kernel's memrefs and semaphores, as its parts take them. -/
local notation "part9(" h ")" => k1_part9 (F := F) i ixM (Memref.isWhole_whole _) tbM (Memref.isWhole_whole _) otM (Memref.isWhole_whole _) tabM (Memref.isWhole_whole _)
            idxM (Memref.isWhole_whole _) bufA (Memref.isWhole_whole _) bufB (Memref.isWhole_whole _) cc1_scratch4 cc1_scratch5
            cc1_scoped0 cc1_scoped1 cc1_scoped2 cc1_scoped3 cc1_scoped4 cc1_scoped5 cc1_scoped6 cc1_scoped7 (widW i) h

/-- The guarded fourth unit: fetched, computed and written out synchronously, where the tile has one. -/
theorem fourth_wp (q : PosShare TreeShare) (ix : S100x4096.Idx → BitVec 32) (tv : S1000.Idx → Elt F .f32) (iv : S8x4096.Idx → BitVec 32)
    (g : S8x4096.Idx → Elt F .f32) (f4 : S10x100x4096.Idx → Elt F .f32) (O : CellTallies nD τ sig (HIx 1)) (W : Waits sig (HIx 1))
    (hix : ∀ z, (ix z).toNat < 100) {α : Type}
    (e : Prog (TpuEff nD τ sig (Elt F) Λ₀ (.scVector ((i 0).castLE hcore1) ((i 1).castLE hsub1))) α) (Q : α → sProp 𝕄) (h1 : k1_cond1 i = 1#1) :
    iprop(R1 d i q ix tv iv g f4 O W ∗ (R1' d i q ix tv O W -∗ wp frame (wpE (defs₀ (F := F)) 𝒱₀ (thr d i) none) Set.univ e Q))
      ⊢ wp frame (wpE (defs₀ (F := F)) 𝒱₀ (thr d i) none) Set.univ (do
          part9(h1)
          Prog.lift (.enqueueDma bufB (.here (out8 (k1_off70 i) (k1_off70_inb i h1))) (.dma cc1_scoped5.sem) (Memref.isWhole_whole _).wordExact
            ((View.wordExact_bits rfl).reshape _ _) ⟨Or.inl rfl, trivial⟩)
          Prog.lift (.waitDma2 cc1_scoped5.sem bufB (out8 (k1_off70 i) (k1_off70_inb i h1)) (Memref.isWhole_whole _).wordExact
            ((View.wordExact_bits rfl).reshape _ _))
          e) Q := by
  have hw24 := (cond1_iff i).mp h1
  unfold R1 R1'
  rw [show box4 (wid i) = box ((wid i + 96) / 12) ((wid i + 96) % 12 * 8) 8 from if_pos hw24]
  rw [k1_part9_eq_skeleton]; unfold k1_part9_skel
  iintro ⟨⟨#Hmw, HI, H0, H1, H3, Ho4, Hr4, Hr5, HO⟩, HK⟩
  ihave Ho4 := (Entails.of_eq (pts8 (F := F) d i (off70_eq i) (k1_off70_inb i h1) f4).symm) $$ Ho4
  sl_exec
  ihave H1 := (Entails.of_eq (landed (F := F) d i idxM iv (rowsOf ((wid i + 96) % 12 * 8) ix) (fourth_wp.sl.dma0 i ix h1)
    (fun x => fetch8 (F := F) (off53_eq i) _ ix x) fullShare)) $$ H1
  rw [bind_assoc]
  iapply (unit_wp (F := F) d i bufB (View.set_whole _) tv (rowsOf ((wid i + 96) % 12 * 8) ix) ((wid i + 96) / 12) 8 (by omega) (fun y _ => hix _) _ _ _ _ trips4 _
    (fun k => rowsB i h1 k.val (lt_of_lt_of_eq k.isLt trips4) (divW (Scalar.addi 96#32 (widW i))) (divW (Scalar.addi 96#32 (widW i))))
    (fun k u => t4_body (F := F) i _ _ _ _ _ _ _ _ _ _ _ _ _ _ _ _ _ _ _ _ _ _ _ _ h1 k _ u) (fun k => rfl)
    (fun k R hR => (congrArg BitVec.toNat (rowsB_w i h1 _ _ _ R hR)).trans (div_96 i)) g) $$ [H0 H1 H3]
  · isplitl [H0]; · iexact H0
    isplitl [H1]; · iexact H1
    iexact H3
  iintro ⟨%g4, %hg4, H0, H1, H3⟩
  sl_exec
  ihave Ho4 := (Entails.of_eq ((landed (F := F) d i (out8 (k1_off70 i) (k1_off70_inb i h1)) f4 (outV ix tv) (fourth_wp.sl.dma0_1 g4)
    (fun x => (hg4 x (x 0).isLt).trans (read8 (off70_eq i) (k1_off70_inb i h1) ix tv x)) fullShare).trans (pts8 d i (off70_eq i) (k1_off70_inb i h1) (outV ix tv)))) $$ Ho4
  iapply HK
  isplitl [HI]; · iexact HI
  isplitl [H0]; · iexact H0
  isplitl [H1]; · iexists _; iexact H1
  isplitl [H3]; · iexists _; iexact H3
  isplitl [Ho4]; · iexact Ho4
  isplitl [Hr4]; · iexact Hr4
  isplitl [Hr5]; · iexact Hr5
  iexists _
  isplitr
  rotate_left
  · iexact HO
  ipureintro
  exact fun p hp => noneW hp fun p hp => noneW hp fun p hp => .inl hp

/-- Owning no element of an array says nothing of its contents. -/
theorem none_pts (f g : S10x100x4096.Idx → Elt F .f32) :
    (((otM).view.loc (thr d i) ↦[(∅ : Finset S10x100x4096.Idx)]{fullShare} f) : sProp 𝕄) = ((otM).view.loc (thr d i) ↦[(∅ : Finset S10x100x4096.Idx)]{fullShare} g) :=
  pointsTo_congr fun y hy => absurd hy (Finset.notMem_empty y)

/-- A tile without a fourth unit has nothing of the result there to write. -/
theorem fourth_skip (q : PosShare TreeShare) (ix : S100x4096.Idx → BitVec 32) (tv : S1000.Idx → Elt F .f32) (iv : S8x4096.Idx → BitVec 32)
    (g : S8x4096.Idx → Elt F .f32) (f4 : S10x100x4096.Idx → Elt F .f32) (O : CellTallies nD τ sig (HIx 1)) (W : Waits sig (HIx 1))
    (h : ¬k1_cond1 i = 1#1) : R1 d i q ix tv iv g f4 O W ⊢ R1' d i q ix tv O W := by
  have he : box4 (wid i) = ∅ := if_neg fun hw => h ((cond1_iff i).mpr hw)
  unfold R1 R1'
  rw [he]
  iintro ⟨-, HI, H0, H1, H3, Ho4, Hr4, Hr5, HO⟩
  isplitl [HI]; · iexact HI
  isplitl [H0]; · iexact H0
  isplitl [H1]; · iexists _; iexact H1
  isplitl [H3]; · iexists _; iexact H3
  isplitl [Ho4]
  · ihave Ho4 := (Entails.of_eq (none_pts (F := F) d i f4 (outV ix tv))) $$ Ho4
    iexact Ho4
  isplitl [Hr4]; · iexact Hr4
  isplitl [Hr5]; · iexact Hr5
  iexists W
  isplitr
  · ipureintro; exact fun p hp => .inl hp
  iexact HO

/-- What the guarded half unit runs from. -/
def R2 (q : PosShare TreeShare) (ix : S100x4096.Idx → BitVec 32) (tv : S1000.Idx → Elt F .f32) (iv : S8x4096.Idx → BitVec 32)
    (g : S8x4096.Idx → Elt F .f32) (f4 : S10x100x4096.Idx → Elt F .f32) (O : CellTallies nD τ sig (HIx 1)) (W : Waits sig (HIx 1)) : sProp 𝕄 :=
  iprop(Transfers.MayWaits (thr d i) (default : HIx 1) O ∗ ((ixM).view.loc (thr d i) ↦{q} ix)
    ∗ ow(tabM, tv) ∗ ow(idxM, iv) ∗ ow(bufA, g) ∗ ((otM).view.loc (thr d i) ↦[boxH (wid i)]{fullShare} f4)
    ∗ sv(cc1_scoped6) ∗ sv(cc1_scoped7) ∗ owes (thr d i) O W)

/-- What it leaves. -/
def R2' (q : PosShare TreeShare) (ix : S100x4096.Idx → BitVec 32) (tv : S1000.Idx → Elt F .f32)
    (O : CellTallies nD τ sig (HIx 1)) (W : Waits sig (HIx 1)) : sProp 𝕄 :=
  iprop(((ixM).view.loc (thr d i) ↦{q} ix)
    ∗ ow(tabM, tv) ∗ (∃ f, ow(idxM, f)) ∗ (∃ f, ow(bufA, f)) ∗ ((otM).view.loc (thr d i) ↦[boxH (wid i)]{fullShare} outV ix tv)
    ∗ sv(cc1_scoped6) ∗ sv(cc1_scoped7) ∗ ∃ W', ⌜∀ p ∈ W', p ∈ W ∨ p.2 = none⌝ ∗ owes (thr d i) O W')

local notation "part11(" h ")" => k1_part11 (F := F) i ixM (Memref.isWhole_whole _) tbM (Memref.isWhole_whole _) otM (Memref.isWhole_whole _) tabM (Memref.isWhole_whole _)
            idxM (Memref.isWhole_whole _) bufA (Memref.isWhole_whole _) bufB (Memref.isWhole_whole _) cc1_scratch4 cc1_scratch5
            cc1_scoped0 cc1_scoped1 cc1_scoped2 cc1_scoped3 cc1_scoped4 cc1_scoped5 cc1_scoped6 cc1_scoped7 (widW i) h

/-- The guarded half unit: four rows fetched, computed and written out synchronously, where the tile has one. -/
theorem half_wp (q : PosShare TreeShare) (ix : S100x4096.Idx → BitVec 32) (tv : S1000.Idx → Elt F .f32) (iv : S8x4096.Idx → BitVec 32)
    (g : S8x4096.Idx → Elt F .f32) (f4 : S10x100x4096.Idx → Elt F .f32) (O : CellTallies nD τ sig (HIx 1)) (W : Waits sig (HIx 1))
    (hix : ∀ z, (ix z).toNat < 100) {α : Type}
    (e : Prog (TpuEff nD τ sig (Elt F) Λ₀ (.scVector ((i 0).castLE hcore1) ((i 1).castLE hsub1))) α) (Q : α → sProp 𝕄) (h2 : k1_cond2 i = 1#1) :
    iprop(R2 d i q ix tv iv g f4 O W ∗ (R2' d i q ix tv O W -∗ wp frame (wpE (defs₀ (F := F)) 𝒱₀ (thr d i) none) Set.univ e Q))
      ⊢ wp frame (wpE (defs₀ (F := F)) 𝒱₀ (thr d i) none) Set.univ (do
          part11(h2)
          Prog.lift (.waitDma2 cc1_scoped7.sem ((bufA).slice (Rect.unit (s := S8x4096) ![0, 0] S4x4096.size inb_S8x4096_S4x4096_0_0) (fun _ => rfl))
            (out4 (k1_off79 i) (k1_off79_inb i h2)) (View.wordExact_bits rfl) ((View.wordExact_bits rfl).reshape _ _))
          e) Q := by
  have hc := (cond2_iff i).mp h2
  have hw := wid_lt i
  have hD : halfD (wid i) < 10 := by unfold halfD; split <;> omega
  unfold R2 R2'
  rw [show boxH (wid i) = box (halfD (wid i)) 96 4 from if_pos hc]
  rw [k1_part11_eq_skeleton]; unfold k1_part11_skel
  iintro ⟨⟨#Hmw, HI, H0, H1, H2, Ho5, Hr6, Hr7, HO⟩, HK⟩
  ihave Ho5 := (Entails.of_eq (pts4 (F := F) d i (off79_eq i h2) (k1_off79_inb i h2) f4).symm) $$ Ho5
  sl_exec
  have hiv := fun (y : S8x4096.Idx) hy => idx_half (F := F) iv ix (half_wp.sl.dma0 (F := F) ix) (fun x => fetch4 (F := F) inb_S100x4096_S4x4096_96_0 ix x) y hy
  rw [bind_assoc]
  iapply (unit_wp (F := F) d i bufA (View.set_whole _) tv
    ((idxM).view.writes (Elt F) iv [⟨Rect.unit (s := S8x4096) ![0, 0] S4x4096.size inb_S8x4096_S4x4096_0_0, half_wp.sl.dma0 ix⟩])
    (halfD (wid i)) 4 hD (fun y hy => by rw [hiv y hy]; exact hix _) _ _ _ _ trips5 _
    (fun k => rowsC i h2 k.val (lt_of_lt_of_eq k.isLt trips5) (halfW (widW i)) (halfW (widW i)))
    (fun k u => t5_body (F := F) i _ _ _ _ _ _ _ _ _ _ _ _ _ _ _ _ _ _ _ _ _ _ _ _ h2 k _ u) (fun k => rfl)
    (fun k R hR => (congrArg BitVec.toNat (rowsC_w i h2 _ _ _ R hR)).trans (half_eq i h2)) g) $$ [H0 H1 H2]
  · isplitl [H0]; · iexact H0
    isplitl [H1]; · iexact H1
    iexact H2
  iintro ⟨%g4, %hg4, H0, H1, H2⟩
  sl_exec
  ihave Ho5 := (Entails.of_eq ((landed (F := F) d i (out4 (k1_off79 i) (k1_off79_inb i h2)) f4 (outV ix tv) (half_wp.sl.dma0_1 g4)
    (fun x => half_read (F := F) (off79_eq i h2) (k1_off79_inb i h2) ix tv _ g4 hiv hg4 x) fullShare).trans (pts4 d i (off79_eq i h2) (k1_off79_inb i h2) (outV ix tv)))) $$ Ho5
  iapply HK
  isplitl [HI]; · iexact HI
  isplitl [H0]; · iexact H0
  isplitl [H1]; · iexists _; iexact H1
  isplitl [H2]; · iexists _; iexact H2
  isplitl [Ho5]; · iexact Ho5
  isplitl [Hr6]; · iexact Hr6
  isplitl [Hr7]; · iexact Hr7
  iexists _
  isplitr
  rotate_left
  · iexact HO
  ipureintro
  exact fun p hp => noneW hp fun p hp => noneW hp fun p hp => .inl hp

/-- A tile without a half unit has nothing of the result there to write. -/
theorem half_skip (q : PosShare TreeShare) (ix : S100x4096.Idx → BitVec 32) (tv : S1000.Idx → Elt F .f32) (iv : S8x4096.Idx → BitVec 32)
    (g : S8x4096.Idx → Elt F .f32) (f4 : S10x100x4096.Idx → Elt F .f32) (O : CellTallies nD τ sig (HIx 1)) (W : Waits sig (HIx 1))
    (h : ¬k1_cond2 i = 1#1) : R2 d i q ix tv iv g f4 O W ⊢ R2' d i q ix tv O W := by
  have he : boxH (wid i) = ∅ := if_neg fun hw => h ((cond2_iff i).mpr hw)
  unfold R2 R2'
  rw [he]
  iintro ⟨-, HI, H0, H1, H2, Ho5, Hr6, Hr7, HO⟩
  isplitl [HI]; · iexact HI
  isplitl [H0]; · iexact H0
  isplitl [H1]; · iexists _; iexact H1
  isplitl [H2]; · iexists _; iexact H2
  isplitl [Ho5]
  · ihave Ho5 := (Entails.of_eq (none_pts (F := F) d i f4 (outV ix tv))) $$ Ho5
    iexact Ho5
  isplitl [Hr6]; · iexact Hr6
  isplitl [Hr7]; · iexact Hr7
  iexists W
  isplitr
  · ipureintro; exact fun p hp => .inl hp
  iexact HO

end Cert.Proof.K
-- ==== Proof.Tile.lean ====
/-
  The tile kernel's body run at a symbolic tile.
-/
module

public import proofs.«01_k».proof.Proof.Units

@[expose] public section

noncomputable section

namespace Cert.Proof.K

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

local notation "ixM" => (Memref.whole main_v1_scv : Memref sig Kind.scVector Space.hbm S100x4096 EltTy.i32)
local notation "tbM" => (Memref.whole main_v3_scv : Memref sig Kind.scVector Space.hbm S1000 EltTy.f32)
local notation "otM" => (Memref.whole main_v4_scv : Memref sig Kind.scVector Space.hbm S10x100x4096 EltTy.f32)
local notation "tabM" => (Memref.whole cc1_scratch0 : Memref sig Kind.scVector Space.vmem S1000 EltTy.f32)
local notation "idxM" => (Memref.whole cc1_scratch1 : Memref sig Kind.scVector Space.vmem S8x4096 EltTy.i32)
local notation "bufA" => (Memref.whole cc1_scratch2 : Memref sig Kind.scVector Space.vmem S8x4096 EltTy.f32)
local notation "bufB" => (Memref.whole cc1_scratch3 : Memref sig Kind.scVector Space.vmem S8x4096 EltTy.f32)

variable (d : Dev nD) (i : grid1.Coords)

/-- What the tile holds of a memref's own elements. -/
local notation "ow(" m ", " f ")" => (View.loc (thr d i) (Memref.view m) ↦[View.set (Memref.view m)]{fullShare} f)

/-- A semaphore of the tile at zero. -/
local notation "sv(" s ")" => semVal (thr d i, SemLoc.dma (SemArray.sem s)) 0

set_option maxHeartbeats 2000000 in
/-- The tile kernel's body: it leaves the result's values in every row the tile owns, its scratch at some contents and its
    semaphores at zero. -/
theorem tile_core (q q' : PosShare TreeShare) (ix : S100x4096.Idx → BitVec 32) (tv : S1000.Idx → Elt F .f32)
    (O : CellTallies nD τ sig (HIx 1)) (W : Waits sig (HIx 1)) (f0 : S1000.Idx → Elt F .f32) (f1 : S8x4096.Idx → BitVec 32)
    (f2 f3 : S8x4096.Idx → Elt F .f32) (f4 : S10x100x4096.Idx → Elt F .f32) (hix : ∀ z, (ix z).toNat < 100) :
    iprop(Transfers.MayWaits (thr d i) (default : HIx 1) O
        ∗ ((ixM).view.loc (thr d i) ↦{q} ix) ∗ ((tbM).view.loc (thr d i) ↦{q'} tv)
        ∗ ow(tabM, f0) ∗ ow(idxM, f1) ∗ ow(bufA, f2) ∗ ow(bufB, f3)
        ∗ ow(out8 (k1_off18 i) (k1_off18_inb i), f4)
        ∗ ow(out8 (k1_off36 i 32#32) (k1_off36_inb i 0), f4)
        ∗ ow(out8 (k1_off36 i 64#32) (k1_off36_inb i 1), f4)
        ∗ ((otM).view.loc (thr d i) ↦[box4 (wid i)]{fullShare} f4)
        ∗ ((otM).view.loc (thr d i) ↦[boxH (wid i)]{fullShare} f4)
        ∗ (sv(cc1_scratch4) ∗ sv(cc1_scratch5) ∗ sv(cc1_scoped0) ∗ sv(cc1_scoped1) ∗ sv(cc1_scoped2) ∗ sv(cc1_scoped3)
          ∗ sv(cc1_scoped4) ∗ sv(cc1_scoped5) ∗ sv(cc1_scoped6) ∗ sv(cc1_scoped7))
        ∗ owes (thr d i) O W : sProp 𝕄)
      ⊢ wp frame (wpE (defs₀ (F := F)) 𝒱₀ (thr d i) none) Set.univ
          (cc1_body i ixM (Memref.isWhole_whole _) tbM (Memref.isWhole_whole _) otM (Memref.isWhole_whole _) tabM (Memref.isWhole_whole _)
            idxM (Memref.isWhole_whole _) bufA (Memref.isWhole_whole _) bufB (Memref.isWhole_whole _) cc1_scratch4 cc1_scratch5
            cc1_scoped0 cc1_scoped1 cc1_scoped2 cc1_scoped3 cc1_scoped4 cc1_scoped5 cc1_scoped6 cc1_scoped7)
          fun _ => iprop(((ixM).view.loc (thr d i) ↦{q} ix) ∗ ((tbM).view.loc (thr d i) ↦{q'} tv)
            ∗ (∃ f, ow(tabM, f)) ∗ (∃ f, ow(idxM, f)) ∗ (∃ f, ow(bufA, f)) ∗ (∃ f, ow(bufB, f))
            ∗ ((otM).view.loc (thr d i) ↦[unitBox (wid i)]{fullShare} outV ix tv)
            ∗ ((otM).view.loc (thr d i) ↦[unitBox (wid i + 32)]{fullShare} outV ix tv)
            ∗ ((otM).view.loc (thr d i) ↦[unitBox (wid i + 64)]{fullShare} outV ix tv)
            ∗ ((otM).view.loc (thr d i) ↦[box4 (wid i)]{fullShare} outV ix tv)
            ∗ ((otM).view.loc (thr d i) ↦[boxH (wid i)]{fullShare} outV ix tv)
            ∗ (sv(cc1_scratch4) ∗ sv(cc1_scratch5) ∗ sv(cc1_scoped0) ∗ sv(cc1_scoped1) ∗ sv(cc1_scoped2) ∗ sv(cc1_scoped3)
              ∗ sv(cc1_scoped4) ∗ sv(cc1_scoped5) ∗ sv(cc1_scoped6) ∗ sv(cc1_scoped7))
            ∗ ∃ W', ⌜∀ p ∈ W', p ∈ W ∨ p.2 = none⌝ ∗ owes (thr d i) O W') := by
  have hw := wid_lt i
  rw [cc1_body_eq_skeleton]; unfold cc1_body_skel
  rw [k1_part12_eq_skeleton]; unfold k1_part12_skel
  rw [k1_part13_eq_skeleton]; unfold k1_part13_skel
  rw [k1_part14_eq_skeleton]; unfold k1_part14_skel
  rw [k1_part15_eq_skeleton]; unfold k1_part15_skel
  iintro ⟨#Hmw, HI, HT, H0, H1, H2, H3, Ho1, Ho2, Ho3, Ho4, Ho5, ⟨Hs4, Hs5, Hr0, Hr1, Hr2, Hr3, Hr4, Hr5, Hr6, Hr7⟩, HO⟩
  sl_exec
  ihave H0 := (Entails.of_eq (landed (F := F) d i tabM f0 tv (tile_core.sl.dma0 tv) (fun _ => rfl) fullShare)) $$ H0
  ihave H1 := (Entails.of_eq (landed (F := F) d i idxM f1 (rowsOf (wid i % 12 * 8) ix) (tile_core.sl.dma0_1 i ix) (fun x => fetch8 (F := F) (off1_eq i) _ ix x) fullShare)) $$ H1
  rw [bind_assoc]
  iapply (unit_wp (F := F) d i bufA (View.set_whole _) tv (rowsOf (wid i % 12 * 8) ix) (wid i / 12) 8 (by omega) (fun y _ => hix _) _ _ _ _ trips1 _
    (fun k => rowsA k.val (lt_of_lt_of_eq k.isLt trips1) (divW (widW i)))
    (fun k u => t1_body (F := F) i _ _ _ _ _ _ _ _ _ _ _ _ _ _ _ _ _ _ _ _ _ _ _ _ k _ u) (fun k => rfl)
    (fun k R hR => by rw [rowsA_w _ _ _ R hR]; exact div_0 i) f2) $$ [H0 H1 H2]
  · isplitl [H0]; · iexact H0
    isplitl [H1]; · iexact H1
    iexact H2
  iintro ⟨%g1, %hg1, H0, H1, H2⟩
  sl_exec
  ihave H1 := (Entails.of_eq (landed (F := F) d i idxM (rowsOf (wid i % 12 * 8) ix) (rowsOf ((wid i + 32) % 12 * 8) ix) (tile_core.sl.dma0_3 i ix)
    (fun x => fetch8 (F := F) (off19_32 i) _ ix x) fullShare)) $$ H1
  rw [bind_assoc]
  iapply (unit_wp (F := F) d i bufB (View.set_whole _) tv (rowsOf ((wid i + 32) % 12 * 8) ix) ((wid i + 32) / 12) 8 (by omega) (fun y _ => hix _) _ _ _ _ trips2 _
    (fun k => rowsA k.val (lt_of_lt_of_eq k.isLt trips2) (divW (Scalar.addi 32#32 (widW i))))
    (fun k u => t2_body (F := F) i _ _ _ _ _ _ _ _ _ _ _ _ _ _ _ _ _ _ _ _ _ _ _ _ k _ u) (fun k => rfl)
    (fun k R hR => by rw [rowsA_w _ _ _ R hR]; exact div_32 i) f3) $$ [H0 H1 H3]
  · isplitl [H0]; · iexact H0
    isplitl [H1]; · iexact H1
    iexact H3
  iintro ⟨%g2, %hg2, H0, H1, H3⟩
  sl_exec
  ihave Ho1 := (Entails.of_eq ((landed (F := F) d i (out8 (k1_off18 i) (k1_off18_inb i)) f4 (outV ix tv) (tile_core.sl.dma0_2 g1)
    (fun x => (hg1 x (x 0).isLt).trans (read8 (off18_eq i) _ ix tv x)) fullShare).trans (pts8 d i (off18_eq i) _ _))) $$ Ho1
  ihave H1 := (Entails.of_eq (landed (F := F) d i idxM (rowsOf ((wid i + 32) % 12 * 8) ix) (rowsOf ((wid i + 64) % 12 * 8) ix) (tile_core.sl.dma0_5 i ix)
    (fun x => fetch8 (F := F) (off19_64 i) _ ix x) fullShare)) $$ H1
  rw [bind_assoc]
  iapply (unit_wp (F := F) d i bufA (View.set_whole _) tv (rowsOf ((wid i + 64) % 12 * 8) ix) ((wid i + 64) / 12) 8 (by omega) (fun y _ => hix _) _ _ _ _ trips3 _
    (fun k => rowsA k.val (lt_of_lt_of_eq k.isLt trips3) (divW (Scalar.addi 64#32 (widW i))))
    (fun k u => t3_body (F := F) i _ _ _ _ _ _ _ _ _ _ _ _ _ _ _ _ _ _ _ _ _ _ _ _ _ _ k _ u) (fun k => rfl)
    (fun k R hR => by rw [rowsA_w _ _ _ R hR]; exact div_64 i) g1) $$ [H0 H1 H2]
  · isplitl [H0]; · iexact H0
    isplitl [H1]; · iexact H1
    iexact H2
  iintro ⟨%g3, %hg3, H0, H1, H2⟩
  sl_exec
  ihave Ho2 := (Entails.of_eq ((landed (F := F) d i (out8 (k1_off36 i 32#32) (k1_off36_inb i 0)) f4 (outV ix tv) (tile_core.sl.dma0_4 g2)
    (fun x => (hg2 x (x 0).isLt).trans (read8 (off36_32 i) _ ix tv x)) fullShare).trans (pts8 d i (off36_32 i) _ _))) $$ Ho2
  rw [wp_bind]
  iapply (branch_wp (F := F) (R := R1 d i q ix tv (rowsOf ((wid i + 64) % 12 * 8) ix) g2 f4 O _) (R' := R1' d i q ix tv O _) _ _
    (fun h1 => fourth_wp (F := F) d i q ix tv _ g2 f4 O _ hix _ _ h1) (fun h => fourth_skip (F := F) d i q ix tv _ g2 f4 O _ h))
  isplitl [HI H0 H1 H3 Ho4 Hr4 Hr5 HO]
  · unfold R1
    isplitr; · iexact Hmw
    isplitl [HI]; · iexact HI
    isplitl [H0]; · iexact H0
    isplitl [H1]; · iexact H1
    isplitl [H3]; · iexact H3
    isplitl [Ho4]; · iexact Ho4
    isplitl [Hr4]; · iexact Hr4
    isplitl [Hr5]; · iexact Hr5
    iexact HO
  unfold R1'
  iintro ⟨HI, H0, ⟨%iv1, H1⟩, ⟨%g4, H3⟩, Ho4, Hr4, Hr5, %W1, %hW1, HO⟩
  sl_exec
  ihave Ho3 := (Entails.of_eq ((landed (F := F) d i (out8 (k1_off36 i 64#32) (k1_off36_inb i 1)) f4 (outV ix tv) (tile_core.sl.dma0_6 g3)
    (fun x => (hg3 x (x 0).isLt).trans (read8 (off36_64 i) (k1_off36_inb i 1) ix tv x)) fullShare).trans (pts8 d i (off36_64 i) (k1_off36_inb i 1) (outV ix tv)))) $$ Ho3
  iapply (branch_wp (F := F) (R := R2 d i q ix tv iv1 g3 f4 O _) (R' := R2' d i q ix tv O _) _ _
    (fun h2 => half_wp (F := F) d i q ix tv _ g3 f4 O _ hix _ _ h2) (fun h => half_skip (F := F) d i q ix tv _ g3 f4 O _ h))
  isplitl [HI H0 H1 H2 Ho5 Hr6 Hr7 HO]
  · unfold R2
    isplitr; · iexact Hmw
    isplitl [HI]; · iexact HI
    isplitl [H0]; · iexact H0
    isplitl [H1]; · iexact H1
    isplitl [H2]; · iexact H2
    isplitl [Ho5]; · iexact Ho5
    isplitl [Hr6]; · iexact Hr6
    isplitl [Hr7]; · iexact Hr7
    iexact HO
  unfold R2'
  iintro ⟨HI, H0, ⟨%iv2, H1⟩, ⟨%g5, H2⟩, Ho5, Hr6, Hr7, %W2, %hW2, HO⟩
  beta_reduce
  rw [wp_pure]
  imodintro
  isplitl [HI]; · iexact HI
  isplitl [HT]; · iexact HT
  isplitl [H0]; · iexists _; iexact H0
  isplitl [H1]; · iexists _; iexact H1
  isplitl [H2]; · iexists _; iexact H2
  isplitl [H3]; · iexists _; iexact H3
  isplitl [Ho1]; · iexact Ho1
  isplitl [Ho2]; · iexact Ho2
  isplitl [Ho3]; · iexact Ho3
  isplitl [Ho4]; · iexact Ho4
  isplitl [Ho5]; · iexact Ho5
  isplitl [Hs4 Hs5 Hr0 Hr1 Hr2 Hr3 Hr4 Hr5 Hr6 Hr7]
  · isplitl [Hs4]; · iexact Hs4
    isplitl [Hs5]; · iexact Hs5
    isplitl [Hr0]; · iexact Hr0
    isplitl [Hr1]; · iexact Hr1
    isplitl [Hr2]; · iexact Hr2
    isplitl [Hr3]; · iexact Hr3
    isplitl [Hr4]; · iexact Hr4
    isplitl [Hr5]; · iexact Hr5
    isplitl [Hr6]; · iexact Hr6
    iexact Hr7
  iexists W2
  isplitr
  · ipureintro
    intro p hp
    rcases hW2 p hp with hp | hp
    · refine noneW hp fun p hp => ?_
      rcases hW1 p hp with hp | hp
      · exact noneW hp fun p hp => noneW hp fun p hp => noneW hp fun p hp => noneW hp fun p hp => noneW hp fun p hp => noneW hp fun p hp => .inl hp
      · exact .inr hp
    · exact .inr hp
  iexact HO

end Cert.Proof.K
-- ==== Proof.Deal.lean ====
/-
  What the SparseCore call hands each tile and takes back: a read token of the transposed index table, a read token of
  the flattened table, the tile's elements of the result; and the tile's run from it.
-/
module

public import proofs.«01_k».proof.Proof.Tile

@[expose] public section

noncomputable section

namespace Cert.Proof.K

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

local notation "ixM" => (Memref.whole main_v1_scv : Memref sig Kind.scVector Space.hbm S100x4096 EltTy.i32)
local notation "tbM" => (Memref.whole main_v3_scv : Memref sig Kind.scVector Space.hbm S1000 EltTy.f32)
local notation "otM" => (Memref.whole main_v4_scv : Memref sig Kind.scVector Space.hbm S10x100x4096 EltTy.f32)
local notation "tabM" => (Memref.whole cc1_scratch0 : Memref sig Kind.scVector Space.vmem S1000 EltTy.f32)
local notation "idxM" => (Memref.whole cc1_scratch1 : Memref sig Kind.scVector Space.vmem S8x4096 EltTy.i32)
local notation "bufA" => (Memref.whole cc1_scratch2 : Memref sig Kind.scVector Space.vmem S8x4096 EltTy.f32)
local notation "bufB" => (Memref.whole cc1_scratch3 : Memref sig Kind.scVector Space.vmem S8x4096 EltTy.f32)

variable (m : (ℓ : Loc nD τ sig) → Buf (Elt F) ℓ)

abbrev inLoc (d : Dev nD) : Loc nD τ sig := (SparseCore.T d).loc main_arg0
abbrev idLoc (d : Dev nD) : Loc nD τ sig := (SparseCore.T d).loc main_arg1
abbrev taLoc (d : Dev nD) : Loc nD τ sig := (SparseCore.T d).loc main_arg2
abbrev scLoc (d : Dev nD) : Loc nD τ sig := (SparseCore.T d).loc main_v0
abbrev ixLoc (d : Dev nD) : Loc nD τ sig := (SparseCore.T d).loc main_v1
abbrev ttLoc (d : Dev nD) : Loc nD τ sig := (SparseCore.T d).loc main_v2
abbrev tbLoc (d : Dev nD) : Loc nD τ sig := (SparseCore.T d).loc main_v3
abbrev otLoc (d : Dev nD) : Loc nD τ sig := (SparseCore.T d).loc main_v4
abbrev resLoc (d : Dev nD) : Loc nD τ sig := (SparseCore.T d).loc main_v5

/-- The index table transposed, and the table transposed and flattened: what the call finds. -/
def ixV (d : Dev nD) : S100x4096.Idx → BitVec 32 :=
  ((transpose S100x4096 [1, 0] · transposes_S4096x100_S100x4096_1_0) : (⟨S4096x100, .i32⟩ : BufTy).Contents (Elt F) → (⟨S100x4096, .i32⟩ : BufTy).Contents (Elt F)) (m (idLoc d))
def ttV (d : Dev nD) : S10x100.Idx → Elt F .f32 :=
  ((transpose S10x100 [1, 0] · transposes_S100x10_S10x100_1_0) : (⟨S100x10, .f32⟩ : BufTy).Contents (Elt F) → (⟨S10x100, .f32⟩ : BufTy).Contents (Elt F)) (m (taLoc d))
def tvV (d : Dev nD) : S1000.Idx → Elt F .f32 := shapeCast S1000 (ttV m d) shapeCasts_S10x100_S1000

/-- Tile `w`'s read token of a whole array. -/
abbrev tok (w : ℕ) : PosShare TreeShare := Transfers.shareTokN fullShare w

/-- What tile `w` gets. -/
def tileIn (d : Dev nD) (w : ℕ) : sProp 𝕄 :=
  iprop((ixLoc d ↦{tok w} ixV m d) ∗ (tbLoc d ↦{tok w} tvV m d) ∗ (otLoc d ↦[tileSet w]{fullShare} m (otLoc d)))
/-- What it hands back. -/
def tileOut (d : Dev nD) (w : ℕ) : sProp 𝕄 :=
  iprop((ixLoc d ↦{tok w} ixV m d) ∗ (tbLoc d ↦{tok w} tvV m d) ∗ (otLoc d ↦[tileSet w]{fullShare} outV (ixV m d) (tvV m d)))

instance tileIn_storable (d : Dev nD) (w : ℕ) : BI.Storable (upEmb : UEmb _ 𝕄) (tileIn m d w) := by unfold tileIn; infer_instance
instance tileOut_storable (d : Dev nD) (w : ℕ) : BI.Storable (upEmb : UEmb _ 𝕄) (tileOut m d w) := by unfold tileOut; infer_instance

/-- What a SparseCore gets: its sixteen tiles' parts; what it hands back. -/
def coreIn (d : Dev nD) (c : ℕ) : sProp 𝕄 := bigSep Finset.univ fun s : Fin 16 => tileIn m d (2 * s.val + c)
def coreOut (d : Dev nD) (c : ℕ) : sProp 𝕄 := bigSep Finset.univ fun s : Fin 16 => tileOut m d (2 * s.val + c)

instance coreIn_storable (d : Dev nD) (c : ℕ) : BI.Storable (upEmb : UEmb _ 𝕄) (coreIn m d c) := by unfold coreIn; infer_instance
instance coreOut_storable (d : Dev nD) (c : ℕ) : BI.Storable (upEmb : UEmb _ 𝕄) (coreOut m d c) := by unfold coreOut; infer_instance

variable [FloatOps F]

def P : (K (F := F)).Pay (nD := nD) (Val := Elt F) (Name := ℕ) (U := UU) where
  st := fun q d c => match q with | 0 => coreIn m d c.val
  dn := fun q d c => match q with | 0 => coreOut m d c.val
  go := fun q d c i => match q with | 0 => tileIn m d (2 * i.val + c.val)
  td := fun q d c i => match q with | 0 => tileOut m d (2 * i.val + c.val)
  x := fun _ _ => iprop(emp)

instance P_storable : (P (F := F) m).IsStorable where
  st q d c := match q with | 0 => (inferInstance : BI.Storable (upEmb : UEmb _ 𝕄) (coreIn m d c.val))
  dn q d c := match q with | 0 => (inferInstance : BI.Storable (upEmb : UEmb _ 𝕄) (coreOut m d c.val))
  go q d c i := match q with | 0 => (inferInstance : BI.Storable (upEmb : UEmb _ 𝕄) (tileIn m d (2 * i.val + c.val)))
  td q d c i := match q with | 0 => (inferInstance : BI.Storable (upEmb : UEmb _ 𝕄) (tileOut m d (2 * i.val + c.val)))

/-- How the call's precondition splits over the tiles, and their results join again. -/
theorem vecSplit : (K (F := F)).VecSplit' (P m) 0 := by
  intro d c
  show coreIn m d c.val ⊢ |={Set.univ}=> iprop((bigSep Finset.univ fun i : Fin 16 => tileIn m d (2 * i.val + c.val))
    ∗ ((bigSep Finset.univ fun i : Fin 16 => tileOut m d (2 * i.val + c.val)) -∗ coreOut m d c.val))
  unfold coreIn coreOut
  iintro H; imodintro
  isplitl [H]; · iexact H
  iintro H; iexact H

/-! ## The tile's scratch and semaphores -/

section Tile

variable (d : Dev nD) (i : grid1.Coords)

/-- The ten semaphores the tile names, in the kernel's spelling. -/
abbrev csem (k : ℕ) (hk : k < 10) : DmaSem sig := ⟨k + 2, by show k + 2 < 12; omega⟩
abbrev dcell (d : Dev nD) (c : Fin τ.nSC) (i : Fin τ.nSub) (k : Fin 10) : GSem nD τ sig := (V d c i, .dma (csem k.val k.isLt))

local notation "sv(" s ")" => semVal (thr d i, SemLoc.dma (SemArray.sem s)) 0

/-- Each of a tile's DMA semaphore cells is among the cells the call owns. -/
theorem dcell_mem (c : Fin τ.nSC) (i : Fin τ.nSub) (k : Fin 10) : dcell d c i k ∈ ownCells (V d c i) :=
  mem_ownCells.mpr ⟨rfl, (show ∀ s : DmaSem sig, (SemLoc.dma s : SemLoc sig).isScoped .scVector = true by decide) _⟩

/-- The tile's own semaphores at zero: the ten, and the rest. -/
theorem ownSems0_V :
    (ownSems0 (thr d i) : sProp 𝕄)
      = iprop((sv(cc1_scratch4) ∗ sv(cc1_scratch5) ∗ sv(cc1_scoped0) ∗ sv(cc1_scoped1) ∗ sv(cc1_scoped2) ∗ sv(cc1_scoped3)
          ∗ sv(cc1_scoped4) ∗ sv(cc1_scoped5) ∗ sv(cc1_scoped6) ∗ sv(cc1_scoped7))
          ∗ bigSep ((ownCells (thr d i)) \ Finset.univ.image (dcell d ((i 0).castLE hcore1) ((i 1).castLE hsub1))) fun g => semVal g 0) := by
  unfold SparseCore.Cfg.ownSems0
  rw [SparseCore.bigSep_sdiff_split' (t := Finset.univ.image (dcell d ((i 0).castLE hcore1) ((i 1).castLE hsub1)))
      (Finset.image_subset_iff.mpr fun k _ => dcell_mem d ((i 0).castLE hcore1) ((i 1).castLE hsub1) k),
    SparseCore.bigSep_image_of_injOn (fun a _ b _ h => by
      have := congrArg (fun g : GSem nD τ sig => g.2) h
      simp only [SemLoc.dma.injEq, Fin.mk.injEq] at this; exact Fin.ext (by omega))]
  rw [show (Finset.univ : Finset (Fin 10)) = {0, 1, 2, 3, 4, 5, 6, 7, 8, 9} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
  rfl

/-- A scratch buffer as a device's. -/
abbrev sref (b : Ref sig .scVector) : DevRef τ sig := (Proc.scVector ((i 0).castLE hcore1) ((i 1).castLE hsub1)).devRef b

/-- The tile's own buffers: the four scratches at some contents, and the rest. -/
theorem ownBufs_V :
    (ownBufs (thr d i) : sProp 𝕄)
      = iprop((∃ f, (thr d i).loc cc1_scratch0 ↦{fullShare} f) ∗ (∃ f, (thr d i).loc cc1_scratch1 ↦{fullShare} f)
          ∗ (∃ f, (thr d i).loc cc1_scratch2 ↦{fullShare} f) ∗ (∃ f, (thr d i).loc cc1_scratch3 ↦{fullShare} f)
          ∗ bigSep ((((ownRefs (τ := τ) (.scVector ((i 0).castLE hcore1) ((i 1).castLE hsub1))).erase (sref i cc1_scratch0)).erase (sref i cc1_scratch1)).erase
              (sref i cc1_scratch2) |>.erase (sref i cc1_scratch3)) fun b => iprop(∃ f, ((d, b) : Loc nD τ sig) ↦{fullShare} f)) := by
  have hne : ∀ {a b : Ref sig .scVector}, a ≠ b → sref i a ≠ sref i b := fun h e => h (Proc.devRef_injective _ e)
  unfold SparseCore.Cfg.ownBufs
  refine (SparseCore.bigSep_erase' (SparseCore.Cfg.mem_ownRefs_of_owner (p := Proc.scVector ((i 0).castLE hcore1) ((i 1).castLE hsub1)) (b := sref i cc1_scratch0) rfl)).trans ?_
  rw [SparseCore.bigSep_erase' (Finset.mem_erase.mpr ⟨hne (by decide : (cc1_scratch1 : Ref sig .scVector) ≠ cc1_scratch0),
      SparseCore.Cfg.mem_ownRefs_of_owner (p := Proc.scVector ((i 0).castLE hcore1) ((i 1).castLE hsub1)) (b := sref i cc1_scratch1) rfl⟩),
    SparseCore.bigSep_erase' (Finset.mem_erase.mpr ⟨hne (by decide : (cc1_scratch2 : Ref sig .scVector) ≠ cc1_scratch1), Finset.mem_erase.mpr
      ⟨hne (by decide : (cc1_scratch2 : Ref sig .scVector) ≠ cc1_scratch0),
      SparseCore.Cfg.mem_ownRefs_of_owner (p := Proc.scVector ((i 0).castLE hcore1) ((i 1).castLE hsub1)) (b := sref i cc1_scratch2) rfl⟩⟩),
    SparseCore.bigSep_erase' (Finset.mem_erase.mpr ⟨hne (by decide : (cc1_scratch3 : Ref sig .scVector) ≠ cc1_scratch2), Finset.mem_erase.mpr
      ⟨hne (by decide : (cc1_scratch3 : Ref sig .scVector) ≠ cc1_scratch1), Finset.mem_erase.mpr
      ⟨hne (by decide : (cc1_scratch3 : Ref sig .scVector) ≠ cc1_scratch0),
      SparseCore.Cfg.mem_ownRefs_of_owner (p := Proc.scVector ((i 0).castLE hcore1) ((i 1).castLE hsub1)) (b := sref i cc1_scratch3) rfl⟩⟩⟩)]

/-- A tile's elements of the result, unit by unit. -/
theorem tile_units (f : S10x100x4096.Idx → Elt F .f32) :
    ((otLoc d ↦[tileSet (wid i)]{fullShare} f) : sProp 𝕄)
      = iprop((otLoc d ↦[unitBox (wid i)]{fullShare} f) ∗ (otLoc d ↦[unitBox (wid i + 32)]{fullShare} f) ∗ (otLoc d ↦[unitBox (wid i + 64)]{fullShare} f)
          ∗ (otLoc d ↦[box4 (wid i)]{fullShare} f) ∗ (otLoc d ↦[boxH (wid i)]{fullShare} f)) := by
  have hu : ∀ {A B : Finset S10x100x4096.Idx}, Disjoint A B →
      ((otLoc d ↦[A ∪ B]{fullShare} f) : sProp 𝕄) = iprop((otLoc d ↦[A]{fullShare} f) ∗ (otLoc d ↦[B]{fullShare} f)) :=
    fun h => Entails.antisymm (pointsTo_union h).1 (pointsTo_union h).2
  rw [tileSet_eq _ (wid_lt i), hu (disj_1 _), hu (disj_2 _), hu (disj_3 _), hu (disj_4 _)]

set_option maxHeartbeats 2000000 in
/-- The tile's run, from what it is handed to what it hands back. -/
theorem tile_body (hF : (K (F := F)).Facts) (hix : ∀ z, (ixV m d z).toNat < 100) (O : CellTallies nD τ sig (HIx 1)) (W : Waits sig (HIx 1)) (hO : ∀ g, O g none = 0) :
    iprop(levAts (K (F := F)).L (K (F := F)).lev ∗ emp ∗ tileIn m d (wid i) ∗ scopedBufs (thr d i) ∗ scopedSems0 (thr d i) ∗ owes (thr d i) O W)
      ⊢ wp frame (wpE (defs₀ (F := F)) 𝒱₀ (thr d i) none) Set.univ
          (cc1_body i ixM (Memref.isWhole_whole _) tbM (Memref.isWhole_whole _) otM (Memref.isWhole_whole _) tabM (Memref.isWhole_whole _)
            idxM (Memref.isWhole_whole _) bufA (Memref.isWhole_whole _) bufB (Memref.isWhole_whole _) cc1_scratch4 cc1_scratch5
            cc1_scoped0 cc1_scoped1 cc1_scoped2 cc1_scoped3 cc1_scoped4 cc1_scoped5 cc1_scoped6 cc1_scoped7)
          fun _ => iprop(tileOut m d (wid i) ∗ scopedBufs (thr d i) ∗ scopedSems0 (thr d i)
            ∗ ∃ W', ⌜∀ p ∈ W', p ∈ W ∨ p.2 = none ∨ p.2 = some (0 : Fin 1)⌝ ∗ owes (thr d i) O W') := by
  rw [(K (F := F)).scopedBufs_V hF d ((i 0).castLE hcore1) ((i 1).castLE hsub1), SparseCore.Cfg.scopedSems0_V (Val := Elt F) d ((i 0).castLE hcore1) ((i 1).castLE hsub1),
    ownSems0_V, ownBufs_V]
  unfold tileIn tileOut
  rw [tile_units, tile_units]
  iintro ⟨#Hlv, -, ⟨HI, HT, Ho1, Ho2, Ho3, Ho4, Ho5⟩, ⟨⟨%f0, H0⟩, ⟨%f1, H1⟩, ⟨%f2, H2⟩, ⟨%f3, H3⟩, Hbufs⟩, ⟨HC, Hsems⟩, HO⟩
  ihave Hmw := (show levAts (K (F := F)).L (K (F := F)).lev ⊢ Transfers.MayWaits (thr d i) (default : HIx 1) O from
    (K (F := F)).mayWaits_none (thr := thr d i) hO) $$ Hlv
  iapply (wp_wand_r Idealize.ShloMosaic.frame (wpE (defs₀ (F := F)) 𝒱₀ (thr d i) none) Set.univ)
  isplitl [HI HT Ho1 Ho2 Ho3 Ho4 Ho5 H0 H1 H2 H3 HC HO]
  · iapply (tile_core (F := F) d i (tok (wid i)) (tok (wid i)) (ixV m d) (tvV m d) O W f0 f1 f2 f3 (m (otLoc d)) hix)
    rw [View.set_whole, View.set_whole, View.set_whole, View.set_whole,
      pts8 d i (off18_eq i), pts8 d i (off36_32 i), pts8 d i (off36_64 i)]
    isplitr; · iexact Hmw
    isplitl [HI]; · iexact HI
    isplitl [HT]; · iexact HT
    isplitl [H0]; · iexact H0
    isplitl [H1]; · iexact H1
    isplitl [H2]; · iexact H2
    isplitl [H3]; · iexact H3
    isplitl [Ho1]; · iexact Ho1
    isplitl [Ho2]; · iexact Ho2
    isplitl [Ho3]; · iexact Ho3
    isplitl [Ho4]; · iexact Ho4
    isplitl [Ho5]; · iexact Ho5
    isplitl [HC]; · iexact HC
    iexact HO
  rw [View.set_whole, View.set_whole, View.set_whole, View.set_whole]
  iintro %_ ⟨HI, HT, ⟨%f0, H0⟩, ⟨%f1, H1⟩, ⟨%f2, H2⟩, ⟨%f3, H3⟩, Ho1, Ho2, Ho3, Ho4, Ho5, HC, ⟨%W', %hW', HO⟩⟩
  isplitl [HI HT Ho1 Ho2 Ho3 Ho4 Ho5]
  · isplitl [HI]; · iexact HI
    isplitl [HT]; · iexact HT
    isplitl [Ho1]; · iexact Ho1
    isplitl [Ho2]; · iexact Ho2
    isplitl [Ho3]; · iexact Ho3
    isplitl [Ho4]; · iexact Ho4
    iexact Ho5
  isplitl [H0 H1 H2 H3 Hbufs]
  · isplitl [H0]; · iexists _; iexact H0
    isplitl [H1]; · iexists _; iexact H1
    isplitl [H2]; · iexists _; iexact H2
    isplitl [H3]; · iexists _; iexact H3
    iexact Hbufs
  isplitl [HC Hsems]
  · isplitl [HC]; · iexact HC
    iexact Hsems
  iexists W'
  isplitr
  · ipureintro; exact fun p hp => (hW' p hp).imp_right Or.inl
  iexact HO

end Tile

/-- Grid coordinates of a core and a subcore. -/
def coordsV (c : Fin (grid1.bound 0)) (s : Fin (grid1.bound 1)) : grid1.Coords :=
  fun | 0 => c | 1 => s | ⟨_ + 2, h⟩ => absurd h (Nat.not_lt.2 (Nat.le_add_left _ _))

/-- What the body table holds for a tile: the gather body at its coordinates. -/
theorem defs₀_vector (c : Fin τ.nSC) (s : Fin τ.nSub) :
    defs₀ (F := F) (.scVector c s) 1 ()
      = SparseCore.onTile hcore1 hsub1 (fun c s => cc1_body (coordsV c s)
          ixM (Memref.isWhole_whole _) tbM (Memref.isWhole_whole _) otM (Memref.isWhole_whole _) tabM (Memref.isWhole_whole _)
            idxM (Memref.isWhole_whole _) bufA (Memref.isWhole_whole _) bufB (Memref.isWhole_whole _) cc1_scratch4 cc1_scratch5
            cc1_scoped0 cc1_scoped1 cc1_scoped2 cc1_scoped3 cc1_scoped4 cc1_scoped5 cc1_scoped6 cc1_scoped7) ⟨⟩ c s := rfl

/-- Every tile's task, from what it is handed to what it hands back. -/
theorem tileObl (hF : (K (F := F)).Facts) (hix : ∀ d z, (ixV m d z).toNat < 100) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact tile_body m d (coordsV ⟨_, hc.1⟩ ⟨_, hc.2⟩) hF (hix d) O W hO

end Cert.Proof.K
-- ==== Proof.Host.lean ====
/-
  The host's side of the SparseCore call: one statement of the host at a time, and the arrays dealt to the thirty-two
  tiles and gathered from them.
-/
module

public import proofs.«01_k».proof.Proof.Deal

@[expose] public section

noncomputable section

namespace Cert.Proof.K

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

variable (m : (ℓ : Loc nD τ sig) → Buf (Elt F) ℓ)

/-! ## Thirty-two tiles as two cores of sixteen -/

/-- A product over the thirty-two tiles is one over the cores, each over its sixteen tiles. -/
theorem bigSep_tiles (Φ : ℕ → sProp 𝕄) :
    bigSep (Finset.range 32) Φ = bigSep Finset.univ fun c : Fin 2 => bigSep Finset.univ fun s : Fin 16 => Φ (2 * s.val + c.val) := by
  rw [show Finset.range 32 = (Finset.univ : Finset (Fin 2 × Fin 16)).image (fun p => 2 * p.2.val + p.1.val) by decide,
    SparseCore.bigSep_image_of_injOn (fun p _ q _ h => by
      have h' : 2 * p.2.val + p.1.val = 2 * q.2.val + q.1.val := h
      have := p.1.isLt; have := q.1.isLt
      exact Prod.ext (Fin.ext (by omega)) (Fin.ext (by omega))), bigSep_univ_prod]

/-- The tiles' elements of the result are all of them. -/
theorem tiles_cover : (Finset.range 32).biUnion tileSet = (Finset.univ : Finset S10x100x4096.Idx) := by
  ext y
  simp only [Finset.mem_biUnion, Finset.mem_range, mem_tileSet, Finset.mem_univ, iff_true]
  exact ⟨owner y, owner_lt y, rfl⟩

/-- The whole result is the tiles' parts of it. -/
theorem result_tiles (d : Dev nD) (f : Buf (Elt F) (otLoc d)) :
    (otLoc d ↦{fullShare} f : sProp 𝕄) = bigSep (Finset.range 32) fun w => otLoc d ↦[tileSet w]{fullShare} f := by
  have h := pointsTo_biUnion (Ix := HIx 1) (Name := ℕ) (U := UU) (Lvl := ℕ) (ℓ := otLoc d) (q := fullShare) (f := f)
    (Finset.range 32) tileSet
    (fun t _ t' _ ht => Finset.disjoint_left.mpr fun y hy hy' => ht ((mem_tileSet.mp hy).symm.trans (mem_tileSet.mp hy')))
  rw [← h, tiles_cover]

/-- What the host keeps of the two tables while the tiles read them. -/
def kept (d : Dev nD) : sProp 𝕄 :=
  iprop((ixLoc d ↦{Transfers.shareDrop fullShare 32} ixV m d) ∗ (tbLoc d ↦{Transfers.shareDrop fullShare 32} tvV m d))

/-- The two tables and the result are what the host keeps and the tiles' parts. -/
theorem deal_tiles (d : Dev nD) :
    iprop((ixLoc d ↦{fullShare} ixV m d) ∗ (tbLoc d ↦{fullShare} tvV m d) ∗ (otLoc d ↦{fullShare} m (otLoc d)))
      ⊢ iprop(kept m d ∗ (bigSep Finset.univ fun c : Fin 2 => coreIn m d c.val) : sProp 𝕄) := by
  rw [show (bigSep Finset.univ fun c : Fin 2 => coreIn m d c.val) = bigSep (Finset.range 32) (tileIn m d) from
    (bigSep_tiles (tileIn m d)).symm, result_tiles]
  unfold kept tileIn
  rw [bigSep_sep', bigSep_sep']
  iintro ⟨Hi, Ht, Ho⟩
  ihave Hi' := ((Transfers.pointsTo_toks_range fullShare 32).1) $$ Hi
  ihave Ht' := ((Transfers.pointsTo_toks_range fullShare 32).1) $$ Ht
  icases Hi' with ⟨Hi, His⟩
  icases Ht' with ⟨Ht, Hts⟩
  isplitl [Hi Ht]; · isplitl [Hi] <;> iassumption
  isplitl [His]; · iexact His
  isplitl [Hts] <;> iassumption

/-- And back, the result now holding what the tiles wrote. -/
theorem gather_tiles (d : Dev nD) :
    iprop(kept m d ∗ (bigSep Finset.univ fun c : Fin 2 => coreOut m d c.val) : sProp 𝕄)
      ⊢ iprop((ixLoc d ↦{fullShare} ixV m d) ∗ (tbLoc d ↦{fullShare} tvV m d) ∗ (otLoc d ↦{fullShare} outV (ixV m d) (tvV m d))) := by
  rw [show (bigSep Finset.univ fun c : Fin 2 => coreOut m d c.val) = bigSep (Finset.range 32) (tileOut m d) from
    (bigSep_tiles (tileOut m d)).symm, result_tiles]
  unfold kept tileOut
  rw [bigSep_sep', bigSep_sep']
  iintro ⟨⟨Hi, Ht⟩, His, Hts, Ho⟩
  isplitl [Hi His]
  · iapply ((Transfers.pointsTo_toks_range fullShare 32).2)
    isplitl [Hi] <;> iassumption
  isplitl [Ht Hts]
  · iapply ((Transfers.pointsTo_toks_range fullShare 32).2)
    isplitl [Ht] <;> iassumption
  iexact Ho

/-! ## One host statement -/

variable [FloatOps F]

/-- A host statement that reads one array and writes another, from the two arrays to the two arrays. -/
theorem host_wp (m : (ℓ : Loc nD τ sig) → Buf (Elt F) ℓ) (d : Dev nD) {hp : (SparseCore.T (τ := τ) d).2.kind.runsHlo = true} (op : HloOp τ sig (Elt F)) (x y : Ref sig .tc)
    (hxy : y ≠ x) (hb : op.bufs = {(x : DevRef τ sig), (y : DevRef τ sig)}) (hf : op.fresh = ∅)
    (fx : Buf (Elt F) ((SparseCore.T d : Thread nD τ).loc x)) (fy g : Buf (Elt F) ((SparseCore.T d : Thread nD τ).loc y))
    (hx : ∀ W, op.result W (x : DevRef τ sig) = W (x : DevRef τ sig))
    (hy : ∀ W, W (x : DevRef τ sig) = fx → op.result W (y : DevRef τ sig) = g) :
    iprop(boundary (SparseCore.T d) ∗ ((SparseCore.T d).loc x ↦{fullShare} fx) ∗ ((SparseCore.T d).loc y ↦{fullShare} fy) : sProp 𝕄)
      ⊢ wp frame (wpE ((K (F := F)).defs (D (F := F))) 𝒱 (SparseCore.T d) none) Set.univ (hlo hp op (fun _ => .ret (⟨⟩ : PUnit)))
          fun _ => iprop(boundary (SparseCore.T d) ∗ ((SparseCore.T d).loc x ↦{fullShare} fx) ∗ ((SparseCore.T d).loc y ↦{fullShare} g)) := by
  have hne : (x : DevRef τ sig) ≠ (y : DevRef τ sig) := StableHlo.devRef_ne_of_ne (Ne.symm hxy)
  let W : Valuation τ sig (Elt F) := Function.update (Function.update (fun b => m (d, b)) (x : DevRef τ sig) fx) (y : DevRef τ sig) fy
  have hWx : W (x : DevRef τ sig) = fx := by
    show Function.update _ _ _ _ = _
    rw [Function.update_of_ne hne, Function.update_self]
  have hWy : W (y : DevRef τ sig) = fy := Function.update_self ..
  have two (V : Valuation τ sig (Elt F)) : (bigSep op.bufs fun b => ((d, b) : Loc nD τ sig) ↦{fullShare} V b : sProp 𝕄)
      = iprop(((SparseCore.T d).loc x ↦{fullShare} V (x : DevRef τ sig)) ∗ ((SparseCore.T d).loc y ↦{fullShare} V (y : DevRef τ sig))) := by
    rw [hb, SparseCore.bigSep_insert' (by simpa using hne), bigSep_singleton]
  iintro ⟨Hb, Hx, Hy⟩
  iapply (wp_hlo 𝒱 (SparseCore.T d) none Set.univ (q := fun _ => fullShare) (F := W) (fun _ _ => rfl) hf) $$ [Hb Hx Hy]
  · isplitl [Hb]; · iexact Hb
    iapply (Entails.of_eq (two W).symm)
    rw [hWx, hWy]
    isplitl [Hx] <;> iassumption
  iintro ⟨Hb, H⟩
  ihave H' := (Entails.of_eq (two (op.result W))) $$ H
  rw [hx W, hWx, hy W hWx, wp_ret]
  imodintro
  isplitl [Hb]; · iexact Hb
  iexact H'

end Cert.Proof.K
-- ==== Proof.Scale.lean ====
/-
  The TensorCore region: the whole first argument staged, scaled and shifted, written back. It runs while the core
  still owes the SparseCores their start, so its waits are allowed by the level facts rather than by owing nothing.
-/
module

public import proofs.«01_k».proof.Proof.Base

@[expose] public section

noncomputable section

namespace Cert.Proof.K

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig (HIx 1) (Elt F) ℕ UU ℕ

variable (m : (ℓ : Loc nD τ sig) → Buf (Elt F) ℓ)

/-- The first result: the argument times a half, plus two. -/
def scaled (c : Dev nD) : S4096x128.Idx → Elt F .f32 := k0_pay1 (m ((SparseCore.T c).loc main_arg0))

/-- What the core owes through the region, and the waits it may have recorded: those below the first call. -/
abbrev debt (c : Dev nD) : CellTallies nD τ sig (HIx 1) := (K (F := F)).Otc c 0
abbrev low (c : Dev nD) : Set (SemLoc sig × HIx 1) := {p | (K (F := F)).lev (SparseCore.T c, p.1) p.2 ≤ 0}

/-- The core owes nothing at the level of no call. -/
theorem debt_none (c : Dev nD) (g : GSem nD τ sig) : debt (F := F) c g none = 0 := by
  rcases Nat.eq_zero_or_pos (debt (F := F) c g none) with h | h
  · exact h
  · have := SparseCore.Cfg.lev_of_Otc_pos h
    exact absurd this (by show ¬ (_ + 1 ≤ 0); omega)

/-- The region's proof data. -/
def dats (_ : Fin 1) (c : Dev nD) : Dat τ (Elt F) (HIx 1) ℕ UU ℕ cfg0 c where
  A w := m ((SparseCore.T c).loc (Pipeline.arrRef spec0 w))
  after w _ := match w with | ⟨0, _⟩ => m ((SparseCore.T c).loc main_arg0) | ⟨1, _⟩ => scaled m c
  Φ _ := iprop(emp)
  q _ := fullShare
  owed _ := debt (F := F) c
  recorded _ := low (F := F) c

/-- The one block of each window is its whole array. -/
theorem blk_read (f : S4096x128.Idx → Elt F .f32) : ((cfg0.win 0).blk t0_0).view.read (Elt F) f = f :=
  Memref.read_access_unit_zero (Elt F) main_arg0 (funext fun a => by fin_cases a <;> rfl) _ f
/-- Reading the output window's one block reads the whole array. -/
theorem blk_read' (f : S4096x128.Idx → Elt F .f32) : ((cfg0.win 1).blk t0_0).view.read (Elt F) f = f :=
  Memref.read_access_unit_zero (Elt F) main_v0 (funext fun a => by fin_cases a <;> rfl) _ f

/-- The fetched window's buffer holds the argument when the body runs. -/
theorem before_in (c : Dev nD) (d : (cfg0.win 0).block.Idx → Elt F (cfg0.win 0).elt) :
    (dats m 0 c).before 0 t0_0 d = m ((SparseCore.T c).loc main_arg0) := by
  unfold Dat.before; rw [if_pos (by decide)]
  exact blk_read (F := F) _

/-- The offset of a whole-array access is zero on both axes. -/
theorem off_zero : (![0, 0] : Fin 2 → ℕ) = fun _ => 0 := funext fun a => by fin_cases a <;> rfl

/-- The body over the two staged buffers. -/
theorem scale_wp (c : Dev nD) (x f : S4096x128.Idx → Elt F .f32) :
    iprop(((Memref.whole cc0_stg0_0).view.loc (c.tc : Thread nD τ) ↦{fullShare} x) ∗ ((Memref.whole cc0_stg1_0).view.loc (c.tc : Thread nD τ) ↦{fullShare} f))
      ⊢ wp frame (wpE (defs₀ (F := F)) 𝒱₀ (c.tc : Thread nD τ) none) Set.univ
          (cc0__scale_body (Memref.whole cc0_stg0_0) (hstage0_0 0) (Memref.whole cc0_stg1_0) (hstage0_1 0))
          fun _ => (iprop(((Memref.whole cc0_stg0_0).view.loc (c.tc : Thread nD τ) ↦{fullShare} x)
            ∗ ((Memref.whole cc0_stg1_0).view.loc (c.tc : Thread nD τ) ↦{fullShare} (k0_pay1 x))) : sProp 𝕄) := by
  rw [cc0__scale_body_eq_skeleton]; unfold cc0__scale_body_skel
  iintro ⟨H0, H1⟩
  sl_exec
  rw [wp_ret]; imodintro
  isplitl [H0]; · iexact H0
  rw [show (Memref.whole cc0_stg1_0).view.writes (Elt F) f
      [⟨Rect.unit ![0, 0] S4096x128.size inb_S4096x128_S4096x128_0_0, k0_pay1 (View.readAt (Elt F) (Memref.whole cc0_stg0_0).view
        (Rect.unit ![0, 0] S4096x128.size inb_S4096x128_S4096x128_0_0).toLoadRect x)⟩] = k0_pay1 x from
    ((Memref.read_access_unit_zero (Elt F) cc0_stg1_0 off_zero inb_S4096x128_S4096x128_0_0 _).symm.trans (View.read_write_univ _ _)).trans
      (congrArg k0_pay1 (Memref.readAt_unit_zero (Elt F) cc0_stg0_0 off_zero inb_S4096x128_S4096x128_0_0 x))]
  iexact H1

/-- The region's body, at its one grid point: it loads the argument, scales and shifts it, stores the result. -/
theorem body_obligation (c : Dev nD) : BodyObligation (dats m 0 c) (defs₀ (F := F)) 𝒱₀ none Set.univ := fun t => by
  obtain rfl := fin_N0 t
  rw [bigSep_W0, bigSep_W0]
  simp only [owns_whole_eq]
  rw [show (dats m 0 c).Φ t0_0.castSucc = iprop(emp) from rfl, show (dats m 0 c).Φ t0_0.succ = iprop(emp) from rfl]
  unfold Dat.owesAt Pipeline.owesWithin
  rw [show (dats m 0 c).owed t0_0.castSucc = debt (F := F) c from rfl, show (dats m 0 c).owed t0_0.succ = debt (F := F) c from rfl]
  change _ ⊢ wp _ _ _ (cc0__scale_body (Memref.whole cc0_stg0_0) (hstage0_0 0) (Memref.whole cc0_stg1_0) (hstage0_1 0)) _
  rw [cc0__scale_body_eq_skeleton]; unfold cc0__scale_body_skel
  iintro ⟨-, ⟨%W, %hW, HO⟩, ⟨%d0, %f0, %hf0, H0⟩, ⟨%d1, %f1, %hf1, H1⟩⟩
  rw [before_in] at hf0
  subst hf0
  iapply (wp_wand_r Idealize.ShloMosaic.frame (wpE (defs₀ (F := F)) 𝒱₀ (c.tc : Thread nD τ) none) Set.univ)
  isplitl [H0 H1]
  · iapply (scale_wp c (m ((SparseCore.T c).loc main_arg0)) f1)
    isplitl [H0] <;> iassumption
  iintro %_ ⟨H0, H1⟩
  isplitr; · iempintro
  isplitl [HO]
  · iexists W; isplitr; · ipureintro; exact hW
    iexact HO
  isplitl [H0]
  · iexists _; isplitr; swap; (· iexact H0); ipureintro; rfl
  iexists _; isplitr; swap; (· iexact H1); ipureintro; rfl

/-- What the two arrays hold after the region. -/
theorem arr_in (c : Dev nD) : (dats m 0 c).arrAt 0 cfg0.N = m ((SparseCore.T c).loc main_arg0) := (dats m 0 c).arrAt_in 0 rfl _
/-- After the region the output array is the scaled argument. -/
theorem arr_out (c : Dev nD) : (dats m 0 c).arrAt 1 cfg0.N = scaled m c := by
  have hw : ((cfg0.win 1).blk t0_0).view.read (Elt F) ((dats m 0 c).arrAt 1 cfg0.N) = (dats m 0 c).flushed 1 t0_0 := by
    rw [show cfg0.N = t0_0.val + 1 from rfl, (dats m 0 c).arrAt_succ (1 : Fin 2) t0_0, flush0_1, if_pos rfl]
    exact View.read_write_univ _ _
  exact ((blk_read' _).symm.trans hw).trans (funext fun _ => rfl)

/-- The tables a pipeline prefetches: none. -/
abbrev adm : (p : Fin 1) → (pcfgs (F := F) p).Adm := fun p => (cfgs p).toPCfg_adm

/-- What the core owes before the first call, its recorded waits below it. -/
def owing (c : Dev nD) : sProp 𝕄 :=
  iprop(∃ W, ⌜(K (F := F)).WBelow (SparseCore.T c) W 0⌝ ∗ owes (SparseCore.T c) (debt (F := F) c) W)

/-- The seven arrays the region does not touch. -/
def others (c : Dev nD) : sProp 𝕄 := Pipeline.unscopedRest spec0 c (fun b => m ((SparseCore.T c).loc b))

/-- What the core owes before the region is what the region's first point expects. -/
theorem owes_in (c : Dev nD) (t : Fin (cfg0.N + 1)) : owing (F := F) c ⊢ (dats m 0 c).owesAt none t := by
  unfold owing Dat.owesAt Pipeline.owesWithin
  iintro ⟨%W, %hW, HO⟩
  iexists W
  isplitr; · ipureintro; exact fun p hp => Or.inl (hW p hp)
  iexact HO

/-- What the region's last point owes is what the core owes after it. -/
theorem owes_out (c : Dev nD) (t : Fin (cfg0.N + 1)) : (dats m 0 c).owesAt none t ⊢ owing (F := F) c := by
  unfold owing Dat.owesAt Pipeline.owesWithin
  iintro ⟨%W, %hW, HO⟩
  iexists W
  isplitr
  · ipureintro
    intro p hp
    rcases hW hp with h | ⟨w, s, rfl⟩
    · exact h
    · exact le_rfl
  iexact HO

/-- The region has no semaphores of its own. -/
theorem noSems : Pipeline.OwnSemFacts spec0 (fun k : Fin 0 => (k.elim0 : SemLoc sig)) := by decide

/-- The region's two arrays at its end: the argument unchanged, the output scaled. -/
theorem arrays_end (c : Dev nD) :
    (dats m 0 c).arrays ((dats m 0 c).arrAt · cfg0.N)
      = (iprop((((SparseCore.T c).loc main_arg0) ↦{fullShare} m ((SparseCore.T c).loc main_arg0)) ∗ (((SparseCore.T c).loc main_v0) ↦{fullShare} scaled m c)) : sProp 𝕄) := by
  have h0 := (dats m 0 c).share_full (fun _ => rfl)
  unfold Dat.arrays
  rw [bigSep_W0, (arr_whole0 0).set_eq_univ, (arr_whole0 1).set_eq_univ, h0, h0]
  beta_reduce
  rw [arr_in, arr_out]

set_option backward.isDefEq.respectTransparency.types false in
/-- The region: entered from every unscoped array as launched, left with the first result written. -/
def reg : Pipeline.RegionSeg (pcfgs (F := F)) adm (dats m) none defs₀ 𝒱₀ (K (F := F)).L (K (F := F)).lev 0 where
  win := launch0.win.to₀
  block_pos := launch0.block_pos
  stage_whole := launch0.stage_whole
  K := Fin 0
  osem := fun k => k.elim0
  ho := noSems
  hbody c := (body_obligation m c).loose
  hwaits c := Pipeline.cellsWaits_intro _ _ _ _ _ fun _ _ _ => (K (F := F)).mayWait_none _ (debt_none c)
  pre c := iprop(unscopedBufs c (fun b => m ((SparseCore.T c).loc b)) ∗ owing (F := F) c)
  post c := iprop((((SparseCore.T c).loc main_arg0) ↦{fullShare} m ((SparseCore.T c).loc main_arg0)) ∗ (((SparseCore.T c).loc main_v0) ↦{fullShare} scaled m c)
    ∗ others m c ∗ owing (F := F) c)
  X _ := iprop(emp)
  Y _ := iprop(emp)
  Z c := others m c
  hentry c := by
    have hsplit := (Pipeline.arrays_of_unscopedBufs (pcfgs (F := F)) adm (dats m) launch0.win launch0.arr_whole c
      ((dats m 0 c).share_full fun _ => rfl) (fun b => m ((SparseCore.T c).loc b)) (fun _ => rfl))
    iintro ⟨⟨Hub, HO⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]; · iapply (owes_in m c 0); iexact HO
    isplitr; · iempintro
    unfold others; iexact Hr
  hin c := by
    rw [show (dats m 0 c).Φ 0 = iprop(emp) from rfl]
    iintro ⟨-, -, -⟩; iempintro
  hout c := by
    rw [scopedRest0_eq]; unfold Pipeline.ownSems0
    rw [show (Finset.univ : Finset (Fin 0)) = ∅ from rfl, BI.bigSep_empty]
    iintro -
    isplitr; · iempintro
    isplitr <;> iempintro
  hexit c := by
    iintro ⟨Ha, HO, -, HZ⟩
    imodintro
    ihave H := (Entails.of_eq (arrays_end m c)) $$ Ha
    icases H with ⟨H0, H1⟩
    isplitl [H0]; · iexact H0
    isplitl [H1]; · iexact H1
    isplitl [HZ]; · iexact HZ
    iapply (owes_out m c (Fin.last cfg0.N)); iexact HO

/-- The region's precondition, spelled out. -/
theorem reg_pre (c : Dev nD) : (reg m).pre c = iprop(unscopedBufs c (fun b => m ((SparseCore.T c).loc b)) ∗ owing (F := F) c) := rfl
/-- The region's postcondition, spelled out. -/
theorem reg_post (c : Dev nD) : (reg m).post c = iprop((((SparseCore.T c).loc main_arg0) ↦{fullShare} m ((SparseCore.T c).loc main_arg0)) ∗ (((SparseCore.T c).loc main_v0) ↦{fullShare} scaled m c)
    ∗ others m c ∗ owing (F := F) c) := rfl

/-- The pipeline's ghost state on a core, as the launch deals it. -/
def ghost (c : Dev nD) : sProp 𝕄 :=
  iprop(Pipeline.cellsGhost (Pipeline.pin (pcfgs (F := F)) adm) EP 0 c ∗ Pipeline.toksInit (Pipeline.pin (pcfgs (F := F)) adm) EP 0 c)

set_option backward.isDefEq.respectTransparency.types false in
/-- The region's own call. -/
theorem entry_wp (d : Dev nD) (Q : PUnit → sProp 𝕄) :
    iprop((iprop(boundary (d.tc : Thread nD τ) ∗ (reg m).post d) -∗ wp frame (wpE (D (F := F)) 𝒱 (d.tc : Thread nD τ) none) Set.univ (Prog.ret PUnit.unit) Q)
        ∗ boundary (d.tc : Thread nD τ) ∗ (reg m).pre d ∗ levAts (K (F := F)).L (K (F := F)).lev
        ∗ Pipeline.cellsGhost (Pipeline.pin (pcfgs (F := F)) adm) EP 0 d ∗ Pipeline.toksInit (Pipeline.pin (pcfgs (F := F)) adm) EP 0 d)
      ⊢ wp frame (wpE (D (F := F)) 𝒱 (d.tc : Thread nD τ) none) Set.univ (.op (.customCall (Pipeline.entry 0) ()) fun u => .ret u) Q :=
  Pipeline.RegionSeg.wp (pcfgs (F := F)) adm (dats m) none cellOf_inj EP defs₀ 𝒱₀ (K (F := F)).L (K (F := F)).lev (reg m) d none
    (fun _ h => nomatch h) (fun u => .ret u) Q

/-- What a core holds after the region. -/
def after (d : Dev nD) : sProp 𝕄 :=
  iprop(boundary (SparseCore.T d) ∗ (((SparseCore.T d).loc main_arg0) ↦{fullShare} m ((SparseCore.T d).loc main_arg0))
    ∗ (((SparseCore.T d).loc main_v0) ↦{fullShare} scaled m d) ∗ others m d ∗ owing (F := F) d)

/-- The region's call run to what the core holds after it. -/
theorem entry_after (d : Dev nD) :
    iprop(levAts (K (F := F)).L (K (F := F)).lev ∗ boundary (SparseCore.T d) ∗ unscopedBufs d (fun b => m ((SparseCore.T d).loc b)) ∗ owing (F := F) d ∗ ghost (F := F) d)
      ⊢ wp frame (wpE (D (F := F)) 𝒱 (SparseCore.T d) none) Set.univ (.op (.customCall (Pipeline.entry 0) ()) fun u => .ret u) fun _ => after m d := by
  iintro H
  iapply (entry_wp m d (fun _ => after m d))
  rw [reg_pre, reg_post]
  unfold ghost after
  icases H with ⟨Hl, Hb, Hub, HO, Hg, Ht⟩
  isplitr
  · iintro ⟨Hb, HP⟩
    rw [wp_ret]; imodintro
    isplitl [Hb]; · iexact Hb
    iexact HP
  isplitl [Hb]; · iexact Hb
  isplitl [Hub HO]
  · isplitl [Hub] <;> iassumption
  isplitl [Hl]; · iexact Hl
  isplitl [Hg] <;> iassumption

/-- The call of the region in the whole program: from every array as launched to the first result written. -/
theorem region_wp (d : Dev nD) :
    iprop(levAts (K (F := F)).L (K (F := F)).lev ∗ boundary (SparseCore.T d) ∗ unscopedBufs d (fun b => m ((SparseCore.T d).loc b)) ∗ owing (F := F) d ∗ ghost (F := F) d)
      ⊢ wp frame (wpE ((K (F := F)).defs (D (F := F))) 𝒱 (SparseCore.T d) none) Set.univ
          (Prog.lift (.customCall (SparseCore.inner (Pipeline.entry 0)) ())) fun _ => after m d :=
  (entry_after m d).trans ((K (F := F)).wp_liftProg (D (F := F)) 𝒱 (SparseCore.T d) Set.univ none
    (Prog.op (.customCall (Pipeline.entry 0) ()) fun u => .ret u) (fun _ => after m d))

end Cert.Proof.K
-- ==== Proof.Run.lean ====
/-
  The whole program's run: the TensorCore region, the host's transposes, the SparseCore call, the last transpose; what
  every array holds at the end, with every counter at zero.
-/
module

public import proofs.«01_k».proof.Proof.Host
public import proofs.«01_k».proof.Proof.Scale

@[expose] public section

noncomputable section

namespace Cert.Proof.K

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.ShloMosaic.Rounds
open Idealize.SL.BI.BIBase Idealize.SL.BI.Laws Idealize.SL.ProofMode Idealize.SL.Sem

variable {F : FTy → Type} [FloatOps F]

local notation "𝕄" => MT nD τ sig (HIx 1) (Elt F) ℕ UU ℕ

variable (m : (ℓ : Loc nD τ sig) → Buf (Elt F) ℓ) (ρ : Dev nD → PrngReg)

/-- The second result: what the tiles wrote, batch first. -/
def resV (d : Dev nD) : S4096x100x10.Idx → Elt F .f32 :=
  ((transpose S4096x100x10 [2, 1, 0] · transposes_S10x100x4096_S4096x100x10_2_1_0) : (⟨S10x100x4096, .f32⟩ : BufTy).Contents (Elt F) → (⟨S4096x100x10, .f32⟩ : BufTy).Contents (Elt F)) (outV (ixV m d) (tvV m d))

/-- What the host ends with: the arguments as launched, the two results. -/
def FIN (d : Dev nD) : sProp 𝕄 :=
  iprop((inLoc d ↦{fullShare} m (inLoc d)) ∗ (idLoc d ↦{fullShare} m (idLoc d)) ∗ (taLoc d ↦{fullShare} m (taLoc d))
    ∗ (scLoc d ↦{fullShare} scaled m d) ∗ (resLoc d ↦{fullShare} resV m d))

/-- The host's state before the call lends what it owes, and takes it back. -/
theorem lend_owing (d : Dev nD) :
    (K (F := F)).tcSt EH d 0 ⊢ (iprop(owing (F := F) d ∗ (owing (F := F) d -∗ (K (F := F)).tcSt EH d 0)) : sProp 𝕄) := by
  rw [show (owing (F := F) d : sProp 𝕄)
      = iprop(∃ W, ⌜(K (F := F)).WBelow (SparseCore.T d) W (8 * SparseCore.Cfg.Blocks.fst 1 1 0)⌝ ∗ owes (SparseCore.T d) ((K (F := F)).Otc d 0) W) from rfl]
  unfold SparseCore.Cfg.tcSt
  iintro ⟨HO, HR⟩
  isplitl [HO]; · iexact HO
  iintro HO
  isplitl [HO]; · iexact HO
  iexact HR

/-! ## The host's four statements -/

/-- The transpose of the indices, as a host statement. -/
theorem host_ix (d : Dev nD) (f : Buf (Elt F) (ixLoc d)) :
    iprop(boundary (SparseCore.T d) ∗ (idLoc d ↦{fullShare} m (idLoc d)) ∗ (ixLoc d ↦{fullShare} f) : sProp 𝕄)
      ⊢ wp frame (wpE ((K (F := F)).defs (D (F := F))) 𝒱 (SparseCore.T d) none) Set.univ
          (hlo rfl (StableHlo.unary main_arg1 main_v1 ((transpose S100x4096 [1, 0] · transposes_S4096x100_S100x4096_1_0) : (⟨S4096x100, .i32⟩ : BufTy).Contents (Elt F) → (⟨S100x4096, .i32⟩ : BufTy).Contents (Elt F))) (fun _ => .ret (⟨⟩ : PUnit)))
          fun _ => iprop(boundary (SparseCore.T d) ∗ (idLoc d ↦{fullShare} m (idLoc d)) ∗ (ixLoc d ↦{fullShare} ixV m d)) :=
  host_wp m d _ main_arg1 main_v1 (by decide) (StableHlo.unary_bufs ..) rfl _ _ _
    (fun W => StableHlo.unary_result_ne _ _ _ _ _ W (by decide))
    (fun W hW => (StableHlo.unary_result _ _ _ _ _ W).trans (by rw [hW]; rfl))

/-- The transpose of the table, as a host statement. -/
theorem host_tt (d : Dev nD) (f : Buf (Elt F) (ttLoc d)) :
    iprop(boundary (SparseCore.T d) ∗ (taLoc d ↦{fullShare} m (taLoc d)) ∗ (ttLoc d ↦{fullShare} f) : sProp 𝕄)
      ⊢ wp frame (wpE ((K (F := F)).defs (D (F := F))) 𝒱 (SparseCore.T d) none) Set.univ
          (hlo rfl (StableHlo.unary main_arg2 main_v2 ((transpose S10x100 [1, 0] · transposes_S100x10_S10x100_1_0) : (⟨S100x10, .f32⟩ : BufTy).Contents (Elt F) → (⟨S10x100, .f32⟩ : BufTy).Contents (Elt F))) (fun _ => .ret (⟨⟩ : PUnit)))
          fun _ => iprop(boundary (SparseCore.T d) ∗ (taLoc d ↦{fullShare} m (taLoc d)) ∗ (ttLoc d ↦{fullShare} ttV m d)) :=
  host_wp m d _ main_arg2 main_v2 (by decide) (StableHlo.unary_bufs ..) rfl _ _ _
    (fun W => StableHlo.unary_result_ne _ _ _ _ _ W (by decide))
    (fun W hW => (StableHlo.unary_result _ _ _ _ _ W).trans (by rw [hW]; rfl))

/-- The flattening of the transposed table, as a host statement. -/
theorem host_tv (d : Dev nD) (f : Buf (Elt F) (tbLoc d)) :
    iprop(boundary (SparseCore.T d) ∗ (ttLoc d ↦{fullShare} ttV m d) ∗ (tbLoc d ↦{fullShare} f) : sProp 𝕄)
      ⊢ wp frame (wpE ((K (F := F)).defs (D (F := F))) 𝒱 (SparseCore.T d) none) Set.univ
          (hlo rfl (StableHlo.reshape main_v2 main_v3 (rfl : (.f32 : EltTy) = .f32) shapeCasts_S10x100_S1000) (fun _ => .ret (⟨⟩ : PUnit)))
          fun _ => iprop(boundary (SparseCore.T d) ∗ (ttLoc d ↦{fullShare} ttV m d) ∗ (tbLoc d ↦{fullShare} tvV m d)) :=
  host_wp m d _ main_v2 main_v3 (by decide) (StableHlo.reshape_bufs ..) rfl _ _ _
    (fun W => StableHlo.reshape_result_ne _ _ _ _ _ _ W (by decide))
    (fun W hW => (StableHlo.reshape_result _ _ _ _ _ _ W).trans (by rw [hW]; rfl))

/-- The transpose of the gathered array into the second result, as a host statement. -/
theorem host_res (d : Dev nD) (f : Buf (Elt F) (resLoc d)) :
    iprop(boundary (SparseCore.T d) ∗ (otLoc d ↦{fullShare} outV (ixV m d) (tvV m d)) ∗ (resLoc d ↦{fullShare} f) : sProp 𝕄)
      ⊢ wp frame (wpE ((K (F := F)).defs (D (F := F))) 𝒱 (SparseCore.T d) none) Set.univ
          (hlo rfl (StableHlo.unary main_v4 main_v5 ((transpose S4096x100x10 [2, 1, 0] · transposes_S10x100x4096_S4096x100x10_2_1_0) : (⟨S10x100x4096, .f32⟩ : BufTy).Contents (Elt F) → (⟨S4096x100x10, .f32⟩ : BufTy).Contents (Elt F))) (fun _ => .ret (⟨⟩ : PUnit)))
          fun _ => iprop(boundary (SparseCore.T d) ∗ (otLoc d ↦{fullShare} outV (ixV m d) (tvV m d)) ∗ (resLoc d ↦{fullShare} resV m d)) :=
  host_wp m d _ main_v4 main_v5 (by decide) (StableHlo.unary_bufs ..) rfl _ _ _
    (fun W => StableHlo.unary_result_ne _ _ _ _ _ W (by decide))
    (fun W hW => (StableHlo.unary_result _ _ _ _ _ W).trans (by rw [hW]; rfl))

/-! ## The host's program -/

/-- The buffers the region leaves alone, listed. -/
theorem others_eq (d : Dev nD) :
    others m d = (iprop((idLoc d ↦{fullShare} m (idLoc d)) ∗ (taLoc d ↦{fullShare} m (taLoc d)) ∗ (ixLoc d ↦{fullShare} m (ixLoc d))
      ∗ (ttLoc d ↦{fullShare} m (ttLoc d)) ∗ (tbLoc d ↦{fullShare} m (tbLoc d)) ∗ (otLoc d ↦{fullShare} m (otLoc d))
      ∗ (resLoc d ↦{fullShare} m (resLoc d))) : sProp 𝕄) :=
  unscopedRest0_eq d _

/-- The call on the host: from the two tables and the result as launched to the result the tiles write. -/
theorem call_wp (κ : GSem nD τ sig → ℕ) (d : Dev nD) :
    iprop((K (F := F)).ctx EH (P m) κ ∗ (K (F := F)).tcSt EH d 0
        ∗ (ixLoc d ↦{fullShare} ixV m d) ∗ (tbLoc d ↦{fullShare} tvV m d) ∗ (otLoc d ↦{fullShare} m (otLoc d)))
      ⊢ wp frame (wpE ((K (F := F)).defs (D (F := F))) 𝒱 (SparseCore.T d) none) Set.univ ((K (F := F)).run d 0)
          fun _ => iprop((K (F := F)).tcSt EH d 1 ∗ (otLoc d ↦{fullShare} outV (ixV m d) (tvV m d))) := by
  iintro ⟨Hctx, Hst, H⟩
  ihave H' := (deal_tiles m d) $$ H
  icases H' with ⟨Hk, Hcs⟩
  iapply ((K (F := F)).wp_run (D (F := F)) 𝒱 (EH := EH) (P := P m) κ d 0) $$ [Hctx Hst Hk Hcs]
  isplitl [Hctx]; · iexact Hctx
  isplitl [Hst]; · iexact Hst
  isplitl [Hcs]; · iexact Hcs
  iintro ⟨Hst, Hdn⟩
  isplitl [Hst]; · iexact Hst
  ihave H := (gather_tiles m d) $$ [Hk Hdn]
  · isplitl [Hk]; · iexact Hk
    iexact Hdn
  icases H with ⟨-, -, Ho⟩
  iexact Ho

/-- The host's program: from every array as launched to the arguments as launched and the two results. -/
theorem hmain (κ : GSem nD τ sig → ℕ) (d : Dev nD) :
    iprop((K (F := F)).ctx EH (P m) κ ∗ (K (F := F)).tcSt EH d 0 ∗ (K (F := F)).tcRes m ρ d ∗ ghost (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  simp only [main, wp_bind, wp_pure]
  iintro ⟨#Hctx, Hst, ⟨Hb, Hub, Hts, -⟩, HG⟩
  ihave Hst' := (lend_owing d) $$ Hst
  icases Hst' with ⟨HO, Hback⟩
  ihave Hlev := (SparseCore.Cfg.ctx_levAts κ) $$ Hctx
  -- the region
  iapply (wp_wand_r frame _ Set.univ)
  isplitl [Hlev Hb Hub HO HG]
  · iapply (region_wp m d)
    isplitl [Hlev]; · iexact Hlev
    isplitl [Hb]; · iexact Hb
    isplitl [Hub]; · iexact Hub
    isplitl [HO]; · iexact HO
    iexact HG
  unfold after
  rw [others_eq]
  iintro %_ ⟨Hb, Hin, Hsc, ⟨Hid, Hta, Hix, Htt, Htb, Hot, Hres⟩, HO⟩
  ihave Hst := Hback $$ HO
  -- the three statements before the call
  iapply (wp_wand_r frame _ Set.univ)
  isplitl [Hb Hid Hix]
  · iapply (host_ix m d _)
    isplitl [Hb]; · iexact Hb
    isplitl [Hid]; · iexact Hid
    iexact Hix
  iintro %_ ⟨Hb, Hid, Hix⟩
  iapply (wp_wand_r frame _ Set.univ)
  isplitl [Hb Hta Htt]
  · iapply (host_tt m d _)
    isplitl [Hb]; · iexact Hb
    isplitl [Hta]; · iexact Hta
    iexact Htt
  iintro %_ ⟨Hb, Hta, Htt⟩
  iapply (wp_wand_r frame _ Set.univ)
  isplitl [Hb Htt Htb]
  · iapply (host_tv m d _)
    isplitl [Hb]; · iexact Hb
    isplitl [Htt]; · iexact Htt
    iexact Htb
  iintro %_ ⟨Hb, Htt, Htb⟩
  -- the call
  iapply (wp_wand_r frame _ Set.univ)
  isplitl [Hst Hix Htb Hot]
  · iapply (call_wp m κ d)
    isplitr; · iexact Hctx
    isplitl [Hst]; · iexact Hst
    isplitl [Hix]; · iexact Hix
    isplitl [Htb]; · iexact Htb
    iexact Hot
  iintro %_ ⟨Hst, Hot⟩
  -- the last transpose
  iapply (wp_wand_r frame _ Set.univ)
  isplitl [Hb Hot Hres]
  · iapply (host_res m d _)
    isplitl [Hb]; · iexact Hb
    isplitl [Hot]; · iexact Hot
    iexact Hres
  iintro %_ ⟨Hb, Hot, Hres⟩
  imodintro
  isplitl [Hst]; · iexact Hst
  isplitr [Hb Hts]
  · unfold FIN
    isplitl [Hin]; · iexact Hin
    isplitl [Hid]; · iexact Hid
    isplitl [Hta]; · iexact Hta
    isplitl [Hsc]; · iexact Hsc
    iexact Hres
  isplitl [Hb] <;> iassumption

/-! ## What the launch funds -/

/-- The launch's ghost element: the handshakes' rounds and the region's. -/
def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

/-- The starting ghost state gives what each thread starts with. -/
theorem hu₀ : (ownU (u₀ (F := F)) : sProp 𝕄)
    ⊢ |={Set.univ}=> iprop(BI.own (EH (initOf (K (F := F)).hsCells (K (F := F)).hsToks)) ∗ (bigSep Finset.univ fun d : Dev nD => ghost (F := F) d)
        ∗ bigSep Finset.univ fun thr : Thread nD τ => bigSep Finset.univ fun q : Fin 1 => (P m).x q thr) := by
  unfold u₀
  iintro Hu
  ihave H := (ownU_pair (initOf (K (F := F)).hsCells (K (F := F)).hsToks)
    ((initOf (Pipeline.cells (Pipeline.pin (pcfgs (F := F)) adm) cellOf_inj) (Pipeline.launchToks (Pipeline.pin (pcfgs (F := F)) adm) cellOf_inj), 1) : UP × Counters)) $$ Hu
  icases H with ⟨HH, HR⟩
  ihave H := (own_pair_emb embR (initOf (Pipeline.cells (Pipeline.pin (pcfgs (F := F)) adm) cellOf_inj) (Pipeline.launchToks (Pipeline.pin (pcfgs (F := F)) adm) cellOf_inj)) (1 : Counters)) $$ HR
  icases H with ⟨HP, -⟩
  imod (Pipeline.fund_ghost (Pipeline.pin (pcfgs (F := F)) adm) EP cellOf_inj) $$ [HP] with ⟨Hg, Ht⟩
  · iexact HP
  imodintro
  isplitl [HH]; · iexact HH
  isplitl [Hg Ht]
  · rw [show (bigSep Finset.univ fun d : Dev nD => ghost (F := F) d)
        = iprop((bigSep Finset.univ fun d : Dev nD => bigSep Finset.univ fun p => Pipeline.cellsGhost (Pipeline.pin (pcfgs (F := F)) adm) EP p d)
          ∗ (bigSep Finset.univ fun d : Dev nD => bigSep Finset.univ fun p => Pipeline.toksInit (Pipeline.pin (pcfgs (F := F)) adm) EP p d) : sProp 𝕄) from by
      rw [← bigSep_sep']
      exact bigSep_congr fun d _ => by
        rw [bigSep_univ_of_subsingleton (0 : Fin 1), bigSep_univ_of_subsingleton (0 : Fin 1)]; rfl]
    isplitl [Hg] <;> iassumption
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1)]
  iapply (Entails.of_eq (bigSep_emp_const (Finset.univ : Finset (Thread nD τ))).symm)
  iempintro

/-! ## The end, and the run -/

/-- What the memory holds at the end. -/
def fq (d : Dev nD) (s' : Phys nD τ sig (Elt F)) : Prop :=
  s'.mem.mem (inLoc d) = m (inLoc d) ∧ s'.mem.mem (idLoc d) = m (idLoc d) ∧ s'.mem.mem (taLoc d) = m (taLoc d)
    ∧ s'.mem.mem (scLoc d) = scaled m d ∧ s'.mem.mem (resLoc d) = resV m d

/-- An array owned whole is in memory as owned, and stays owned. -/
theorem mem_of_owned (s' : Phys nD τ sig (Elt F)) (ℓ : Loc nD τ sig) (f : Buf (Elt F) ℓ) :
    iprop((ℓ ↦{fullShare} f) ∗ SI s' : sProp 𝕄) ⊢ iprop(⌜s'.mem.mem ℓ = f⌝ ∗ SI s') := by
  iintro ⟨H, HSI⟩
  ihave H := (persistent_entails_right (SI_pointsTo_agree (st := s') (ℓ := ℓ) (I := Finset.univ) (q := fullShare) (f := f))) $$ [HSI H]
  · isplitl [HSI] <;> iassumption
  icases H with ⟨%h, HSI, -⟩
  isplitr
  · ipureintro; exact funext fun (i : Idx ℓ) => h i (by simp)
  iexact HSI

/-- What a device ends with fixes the final memory. -/
theorem hfin (d : Dev nD) (s' : Phys nD τ sig (Elt F)) : iprop(FIN m d ∗ SI s') ⊢ (⌜fq m d s'⌝ : sProp 𝕄) := by
  unfold FIN
  iintro ⟨⟨H1, H2, H3, H4, H5⟩, HSI⟩
  ihave H := (mem_of_owned s' (inLoc d) _) $$ [H1 HSI]
  · isplitl [H1] <;> iassumption
  icases H with ⟨%e1, HSI⟩
  ihave H := (mem_of_owned s' (idLoc d) _) $$ [H2 HSI]
  · isplitl [H2] <;> iassumption
  icases H with ⟨%e2, HSI⟩
  ihave H := (mem_of_owned s' (taLoc d) _) $$ [H3 HSI]
  · isplitl [H3] <;> iassumption
  icases H with ⟨%e3, HSI⟩
  ihave H := (mem_of_owned s' (scLoc d) _) $$ [H4 HSI]
  · isplitl [H4] <;> iassumption
  icases H with ⟨%e4, HSI⟩
  ihave H := (mem_of_owned s' (resLoc d) _) $$ [H5 HSI]
  · isplitl [H5] <;> iassumption
  icases H with ⟨%e5, -⟩
  ipureintro
  exact ⟨e1, e2, e3, e4, e5⟩

/-- What the run leaves: on every device the arguments and the two results, and every counter at zero. -/
def QC : PUnit × MemSt nD τ sig (Elt F) → Prop := fun r =>
  (∀ d : Dev nD, r.2.mem (inLoc d) = m (inLoc d) ∧ r.2.mem (idLoc d) = m (idLoc d) ∧ r.2.mem (taLoc d) = m (taLoc d)
    ∧ r.2.mem (scLoc d) = scaled m d ∧ r.2.mem (resLoc d) = resV m d) ∧ r.2.sem = fun _ => 0

/-- Every run of the program from indices below a hundred ends so. -/
theorem run_main [∀ e, Nonempty (Elt F e)] (hix : ∀ d z, (ixV m d z).toNat < 100) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hix)
    (fun q _ => match q with | 0 => SparseCore.Cfg.VecSplit.of_plain (vecSplit m))
    m ρ main (fun d => ghost (F := F) d) (FIN m) (u₀ (F := F)) (sep_elim_left.trans (hu₀ m)) (hmain m ρ) (fq m) (hfin m) (QC m) (fun _ h hz => ⟨h, hz⟩)

end Cert.Proof.K
-- ==== Proof.Value.lean ====
/-
  The two results as the arguments' values: what the precondition says of the indices, what the reference's take reads,
  and that the program's second result reads the same.
-/
module

public import proofs.«01_k».proof.Proof.Run
public import proofs.«01_k».proof.Pre_in_range
public import proofs.«01_k».proof.Proof.Gen.Pre_in_range
public import proofs.«01_k».proof.Proof.Gen.ReferenceIdeal
public import Idealize.ShloMosaic.Lib.ReduceAll

@[expose] public section

noncomputable section

namespace Cert.Proof.K

open Idealize.ShloMosaic

variable {F : FTy → Type} [FloatOps F]

local notation "Tb" => (⟨2, ![100, 10]⟩ : Shape)
local notation "Ix" => (⟨2, ![4096, 100]⟩ : Shape)
local notation "Ix1" => (⟨3, ![4096, 100, 1]⟩ : Shape)
local notation "Ou" => (⟨3, ![4096, 100, 10]⟩ : Shape)

/-! ## The precondition -/

/-- The precondition says every index is below a hundred. -/
theorem idx_lt (a0 : FVec F Cert.Pre_in_range.S4096x128 .f32) (a1 : IVec Cert.Pre_in_range.S4096x100 32)
    (a2 : FVec F Cert.Pre_in_range.S100x10 .f32)
    (h : Cert.Pre_in_range.fn a0 a1 a2 = fun _ => 1#1) (z : (Ix).Idx) : (a1 z).toNat < 100 := by
  have : Subsingleton Cert.Pre_in_range.S_.Idx := ⟨fun a b => funext fun i => i.elim0⟩
  have e := congrFun h (Shape.Idx.first Cert.Pre_in_range.Facts.h_S_)
  unfold Cert.Pre_in_range.fn at e
  have e := Host.reduce_andi_all _ _ _ _ _ e z
  have e : IntOp.andi (IntOp.cmpi .sge (a1 z) 0#32) (IntOp.cmpi .slt (a1 z) 100#32) = 1#1 := e
  obtain ⟨e1, e2⟩ := IntOp.andi_eq_one.1 e
  have e1 := IntOp.cmpi_sge.1 e1
  have e2 := IntOp.cmpi_slt.1 e2
  rw [show (0#32 : BitVec 32).toInt = 0 by decide] at e1
  rw [show (100#32 : BitVec 32).toInt = 100 by decide] at e2
  rw [BitVec.toInt_eq_toNat_cond] at e1 e2
  have := (a1 z).isLt
  split at e1 <;> split at e2 <;> omega

/-! ## The reference's take -/

/-- Row `n` of the table, column `k`; the index of batch `b`, field `j`. -/
def rowCol (n : ℕ) (k : Fin 10) : (Tb).Idx := Shape.pair (d := ![100, 10]) ⟨n % 100, Nat.mod_lt _ (by decide)⟩ k
def idxAt (y : (Ou).Idx) : (Ix).Idx := Shape.pair (d := ![4096, 100]) (y 0) (y 1)
def idxAt1 (y : (Ou).Idx) : (Ix1).Idx := fun a => match a with | ⟨0, _⟩ => y 0 | ⟨1, _⟩ => y 1 | ⟨2, _⟩ => (0 : Fin 1)

/-- The rows of the table the indices name. -/
def takeV {α : Type} (tb : (Tb).Idx → α) (ix : (Ix).Idx → BitVec 32) (y : (Ou).Idx) : α := tb (rowCol (ix (idxAt y)).toNat (y 2))

/-- A word below a hundred reads the same signed. -/
theorem toInt_small {v : BitVec 32} (h : v.toNat < 100) : v.toInt = v.toNat := by
  rw [BitVec.toInt_eq_toNat_cond, if_pos (by omega)]

open Cert.ReferenceIdeal Cert.ReferenceIdeal.Gen in
/-- The take's starting rows: an index below a hundred is its own row. -/
def starts (ix : IVec S4096x100 32) : IVec S4096x100x1 32 :=
  broadcastInDim S4096x100x1 ![0, 1] bcast_S4096x100_S4096x100x1_0_1 (select (cmpi .slt ix (broadcastInDim S4096x100 ![] bcast_S_S4096x100 (constantI S_ 32 0#32))) (addi ix (broadcastInDim S4096x100 ![] bcast_S_S4096x100 (constantI S_ 32 100#32))) ix)

/-- From indices below a hundred the starting row is the index itself. -/
theorem starts_apply (ix : IVec Ix 32) (h : ∀ z, (ix z).toNat < 100) (y : (Ix1).Idx) :
    starts ix y = ix (Shape.pair (d := ![4096, 100]) (y 0) (y 1)) := by
  unfold starts
  rw [broadcastInDim_apply _ _ _ y (Shape.pair (d := ![4096, 100]) (y 0) (y 1))
    (fun a => match a with
      | ⟨0, _⟩ => (if_neg (show ¬ (4096 : ℕ) = 1 by decide)).symm
      | ⟨1, _⟩ => (if_neg (show ¬ (100 : ℕ) = 1 by decide)).symm)]
  generalize Shape.pair (d := ![4096, 100]) (y 0) (y 1) = z
  show Scalar.select (IntOp.cmpi .slt (ix z) 0#32) _ _ = _
  unfold Scalar.select
  rw [if_neg]
  intro e
  have e := IntOp.cmpi_slt.1 e
  rw [toInt_small (h z), show (0#32 : BitVec 32).toInt = 0 by decide] at e
  omega

open Cert.ReferenceIdeal Cert.ReferenceIdeal.Gen in
/-- The take's gather reads the row its starting row names, within the table. -/
theorem gather_row {α : Type} (x : (Tb).Idx → α) (st : IVec Ix1 32) (y : (Ou).Idx) (h : (st (idxAt1 y)).toNat < 100) :
    Host.gather gather_S100x10_S4096x100x1_S4096x100x10_2_0_n_n_0_2_110 x st y = x (rowCol (st (idxAt1 y)).toNat (y 2)) := by
  let d := gather_S100x10_S4096x100x1_S4096x100x10_2_0_n_n_0_2_110
  unfold Host.gather
  congr 1
  funext a
  refine Fin.ext ?_
  show d.start y st a + d.batchCoord y a + d.offCoord y a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    unfold GatherDims.start
    rw [dif_pos (show (0 : Fin 2) ∈ d.startIndexMap from List.mem_singleton.mpr rfl)]
    have hsi : d.siIdx y ⟨List.idxOf (0 : Fin 2) d.startIndexMap, List.idxOf_lt_length_iff.2 (List.mem_singleton.mpr rfl)⟩ = idxAt1 y := by
      funext b; refine Fin.ext ?_
      match b with
      | ⟨0, _⟩ => rfl
      | ⟨1, _⟩ => rfl
      | ⟨2, _⟩ => rfl
    rw [hsi, toInt_small h]
    show min (st (idxAt1 y)).toNat 99 + 0 + 0 = (st (idxAt1 y)).toNat % 100
    omega
  · unfold GatherDims.start
    rw [dif_neg (by decide)]
    show 0 + 0 + d.offCoord y 1 = (y 2).val
    rw [Nat.zero_add]
    unfold GatherDims.offCoord
    rw [dif_pos (by decide)]
    rfl

open Cert.ReferenceIdeal Cert.ReferenceIdeal.Gen in
/-- The reference's second result: the take, with an out-of-range row replaced. -/
def refTake (tb : FVec F S100x10 .f32) (ix : IVec S4096x100 32) : FVec F S4096x100x10 .f32 :=
  select (broadcastInDim S4096x100x10 ![0, 1] bcast_S4096x100_S4096x100x10_0_1
      (Host.reduce IntOp.andi
        (andi (cmpi .sge (starts ix) (broadcastInDim S4096x100x1 ![] bcast_S_S4096x100x1 (constantI S_ 32 0#32)))
          (cmpi .sle (starts ix) (broadcastInDim S4096x100x1 ![0, 1, 2] bcast_S1x1x1_S4096x100x1_0_1_2 (broadcastInDim S1x1x1 ![2] bcast_S1_S1x1x1_2 (constantI S1 32 99#32)))))
        (constantI S_ 1 1#1) reducesTo_S4096x100x1_S4096x100_d2 h_S_))
    (Host.gather gather_S100x10_S4096x100x1_S4096x100x10_2_0_n_n_0_2_110 tb (starts ix))
    (broadcastInDim S4096x100x10 ![] bcast_S_S4096x100x10 (constant S_ .f32 0x7FC00000#32))

/-- From indices below a hundred the reference's second result is the rows they name. -/
theorem refTake_eq (tb : FVec F Tb .f32) (ix : IVec Ix 32) (h : ∀ z, (ix z).toNat < 100) : refTake tb ix = takeV tb ix := by
  have hst (y : (Ix1).Idx) : (starts ix y).toNat < 100 := by rw [starts_apply ix h y]; exact h _
  funext y
  unfold refTake
  show Scalar.select (Host.reduce IntOp.andi _ _ _ _ _) (Host.gather _ tb (starts ix) y) _ = _
  rw [Host.reduce_andi_one _ _ _ _ _ rfl (fun i => ?_)]
  · unfold Scalar.select
    rw [if_pos (show (1#1 : BitVec 1) = 1 from rfl), gather_row tb (starts ix) y (hst _), starts_apply ix h]
    rfl
  · show IntOp.andi (IntOp.cmpi .sge (starts ix i) 0#32) (IntOp.cmpi .sle (starts ix i) 99#32) = 1#1
    refine IntOp.andi_eq_one.2 ⟨IntOp.cmpi_sge.2 ?_, IntOp.cmpi_sle.2 ?_⟩ <;> rw [toInt_small (hst i)]
    · rw [show (0#32 : BitVec 32).toInt = 0 by decide]; omega
    · rw [show (99#32 : BitVec 32).toInt = 99 by decide]; have := hst i; omega

open Cert.ReferenceIdeal Cert.ReferenceIdeal.Gen in
/-- The reference's first result: half the first argument, plus two. -/
def refScale (x : FVec F S4096x128 .f32) : FVec F S4096x128 .f32 :=
  addf (mulf x (broadcastInDim S4096x128 ![] bcast_S_S4096x128 (constant S_ .f32 0x3F000000#32)))
    (broadcastInDim S4096x128 ![] bcast_S_S4096x128 (constant S_ .f32 0x40000000#32))

/-- The region's arithmetic is the reference's, element by element. -/
theorem refScale_eq (x : FVec F (⟨2, ![4096, 128]⟩ : Shape) .f32) : refScale x = Cert.KernelIdeal.Gen.k0_pay1 x := by
  funext i
  unfold refScale Cert.KernelIdeal.Gen.k0_pay1
  show FloatOps.addf (FloatOps.mulf (x i) _) _ = FloatOps.addf (FloatOps.mulf (x i) _) _
  rfl

/-! ## The program's results -/

section Program

open Cert.KernelIdeal Cert.KernelIdeal.Gen

variable (m : (ℓ : Loc nD τ sig) → Buf (Elt F) ℓ)

/-- The transposed index table at field `j`, batch `b` is the index of batch `b`, field `j`. -/
theorem ixV_apply (d : Dev nD) (z : S100x4096.Idx) : ixV m d z = m (idLoc d) (Shape.pair (d := ![4096, 100]) (z 1) (z 0)) :=
  transpose_apply _ _ _ z _ fun b => match b with | ⟨0, _⟩ => rfl | ⟨1, _⟩ => rfl

/-- The flattened table at `n + 100 k` is row `n`, column `k`. -/
theorem tvV_apply (d : Dev nD) (n : ℕ) (hn : n < 100) (k : Fin 10) : tvV m d (ix1000 (n + 100 * k.val)) = m (taLoc d) (rowCol n k) := by
  unfold tvV
  rw [shapeCast_apply _ _ _ (Shape.pair (d := ![10, 100]) k ⟨n, hn⟩) (by
    rw [Shape.rowMajor_pair_val (d := ![10, 100]) k ⟨n, hn⟩]
    refine Eq.trans ?_ (Shape.rowMajor_val_one (d := ![1000]) (ix1000 (n + 100 * k.val))).symm
    show k.val * 100 + n = (n + 100 * k.val) % 1000
    have := k.isLt; omega)]
  refine transpose_apply _ _ _ _ _ fun b => ?_
  match b with
  | ⟨0, _⟩ => rfl
  | ⟨1, _⟩ => exact Nat.mod_eq_of_lt hn

/-- The program's second result is the rows the indices name. -/
theorem resV_eq (d : Dev nD) (h : ∀ z : (Ix).Idx, (m (idLoc d) z : BitVec 32).toNat < 100) :
    resV m d = takeV (m (taLoc d)) (m (idLoc d)) := by
  funext y
  have e : resV m d y = outV (ixV m d) (tvV m d) (fun a => match a with | ⟨0, _⟩ => y 2 | ⟨1, _⟩ => y 1 | ⟨2, _⟩ => y 0) :=
    transpose_apply _ _ _ y _ fun b => match b with | ⟨0, _⟩ => rfl | ⟨1, _⟩ => rfl | ⟨2, _⟩ => rfl
  rw [e]
  unfold outV
  have hz : ixV m d (jb (y 1).val (y 0).val) = m (idLoc d) (idxAt y) := by
    rw [ixV_apply]
    refine congrArg (m (idLoc d)) (funext fun a => Fin.ext ?_)
    match a with
    | ⟨0, _⟩ => exact Nat.mod_eq_of_lt (y 0).isLt
    | ⟨1, _⟩ => exact Nat.mod_eq_of_lt (y 1).isLt
  show tvV m d (ix1000 ((ixV m d (jb (y 1).val (y 0).val)).toNat + 100 * (y 2).val)) = _
  rw [hz, tvV_apply m d _ (h _) (y 2)]
  rfl

/-- Indices below a hundred, transposed. -/
theorem ixV_lt (h : ∀ (d : Dev nD) (z : (Ix).Idx), (m (idLoc d) z : BitVec 32).toNat < 100) (d : Dev nD) (z : S100x4096.Idx) :
    (ixV m d z).toNat < 100 := by
  rw [ixV_apply]; exact h d _

end Program

end Cert.Proof.K
-- ==== Proof.lean ====
/-
  The claims about the elementwise-and-lookup kernel, from the run of the program (Proof/Run.lean) and the values of its
  two results (Proof/Value.lean): the kernel and its idealization run, keep their arguments and leave every semaphore
  at zero; so does the reference; and the idealized kernel's two results are the reference's.
-/
module

public import proofs.«01_k».proof.Proof.Gen.ReferenceIdeal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.Pre_in_range
public import Idealize.ShloMosaic.Adequacy
public import Idealize.ShloMosaic.Init
public import proofs.«01_k».proof.Proof.Value
public import Idealize.ShloMosaic.Lib.Quiescent

@[expose] public section

noncomputable section

namespace Cert.Proof

open Idealize.ShloMosaic Idealize.SL.Sem Cert.Kernel

/-- From indices below a hundred the program runs, keeps its arguments and ends with every semaphore at zero, whatever
    the floats are. -/
theorem frame_of_run {F : FTy → Type} [FloatOps F] [∀ e, Nonempty (Elt F e)]
    (m : (ℓ : Loc Cert.KernelIdeal.nD Cert.KernelIdeal.τ Cert.KernelIdeal.sig) → Buf (Elt F) ℓ) (g : Dev Cert.KernelIdeal.nD → PrngReg)
    (hix : ∀ (d : Dev Cert.KernelIdeal.nD) (z : (⟨2, ![4096, 100]⟩ : Shape).Idx), (m (K.idLoc d) z : BitVec 32).toNat < 100) :
    θ_run (Cert.KernelIdeal.defs (F := F)) (Cert.KernelIdeal.threads (F := F)) ⟨m, fun _ => 0, g⟩ fun r =>
      (∀ d : Dev Cert.KernelIdeal.nD, r.2.mem (K.inLoc d) = m (K.inLoc d) ∧ r.2.mem (K.idLoc d) = m (K.idLoc d)
        ∧ r.2.mem (K.taLoc d) = m (K.taLoc d)) ∧ r.2.sem = fun _ => 0 :=
  (θ_run (Cert.KernelIdeal.defs (F := F)) (Cert.KernelIdeal.threads (F := F)) ⟨m, fun _ => 0, g⟩).mono
    (fun _ h => ⟨fun c => ⟨(h.1 c).1, (h.1 c).2.1, (h.1 c).2.2.1⟩, h.2⟩)
    (K.run_main m g (K.ixV_lt m hix))

/-- The kernel's bodies are its idealization's, label by label. -/
theorem bodies_eq {F : FTy → Type} [FloatOps F] : Cert.Kernel.defs₀ (F := F) = Cert.KernelIdeal.defs₀ (F := F) := by
  funext t l a
  match t, l with
  | .tc, 0 => rfl
  | .tc, 1 => rfl
  | .scScalar c, 0 => rfl
  | .scScalar c, 1 => rfl
  | .scVector c s, 0 => rfl
  | .scVector c s, 1 => rfl

/-- So are the whole body tables. -/
theorem defs_eq {F : FTy → Type} [FloatOps F] : Cert.Kernel.defs (F := F) = Cert.KernelIdeal.defs (F := F) :=
  congrArg (fun b => Cert.KernelIdeal.sc.defs (Pipeline.defs Cert.KernelIdeal.pcfgs b)) bodies_eq

/-- The kernel runs from indices in range, keeps its arguments and ends with every semaphore at zero. -/
theorem frame_kernel : Cert.quiescent_Kernel := fun m g h => by
  rw [defs_eq]
  exact frame_of_run (F := Bits) m g fun d => K.idx_lt _ _ _ (h d)

/-- Its idealization does too. -/
theorem frame_kernelIdeal : Cert.quiescent_KernelIdeal := fun m g h =>
  frame_of_run (F := Ideal) m g fun d => K.idx_lt _ _ _ (h d)

/-- The reference runs from any memory, keeps its arguments and, having no semaphore, ends with every one at zero. -/
theorem frame_reference : Cert.quiescent_ReferenceIdeal := fun m g _ =>
  (θ_run (Cert.ReferenceIdeal.defs (F := Ideal)) (onTc (τ := Cert.ReferenceIdeal.τ) (Cert.ReferenceIdeal.main (F := Ideal))) ⟨m, fun _ => 0, g⟩).mono
    (fun r h => ⟨fun c => (h c).2.2, sem_eq_zero_of_no_sems (by decide) r.2⟩)
    (Cert.ReferenceIdeal.Value.run (F := Ideal) m g)

/-- In particular from a memory whose indices are in range. -/
theorem frame_reference_in_range : Cert.quiescent_ReferenceIdeal_pre_in_range := fun m g _ => frame_reference m g trivial

/-- The idealized kernel and the reference end with equal results: half the first argument plus two, and the rows of
    the table the indices name. -/
theorem value : Cert.algebraic_KernelIdeal_ReferenceIdeal := by
  intro m g m' g' h hm
  have hix (d : Dev Cert.KernelIdeal.nD) := K.idx_lt _ _ _ (h d)
  refine ⟨fun c => K.scaled m c, fun c => K.resV m c, ?_, ?_⟩
  · exact (θ_run (Cert.KernelIdeal.defs (F := Ideal)) (Cert.KernelIdeal.threads (F := Ideal)) ⟨m, fun _ => 0, g⟩).mono
      (fun _ h c => ⟨(h.1 c).2.2.2.1, (h.1 c).2.2.2.2, (h.1 c).1, (h.1 c).2.1, (h.1 c).2.2.1⟩)
      (K.run_main (F := Ideal) m g (K.ixV_lt m hix))
  · refine (θ_run (Cert.ReferenceIdeal.defs (F := Ideal)) (onTc (τ := Cert.ReferenceIdeal.τ) (Cert.ReferenceIdeal.main (F := Ideal))) ⟨m', fun _ => 0, g'⟩).mono
      (fun _ h c => ?_) (Cert.ReferenceIdeal.Value.run (F := Ideal) m' g')
    obtain ⟨r0, r1, ra⟩ := h c
    refine ⟨r0.trans ?_, r1.trans ?_, ra⟩
    · rw [(hm c).1]
      exact K.refScale_eq _
    · have e : K.refTake (F := Ideal) (m (K.taLoc c)) (m (K.idLoc c)) = K.resV m c :=
        (K.refTake_eq _ _ (hix c)).trans (K.resV_eq m c (hix c)).symm
      rw [(hm c).2.1, (hm c).2.2]
      exact e

/-- Everything claimed. -/
theorem claim : Cert.Claim :=
  ⟨Cert.Kernel.Gen.facts, Cert.KernelIdeal.Gen.facts, Cert.ReferenceIdeal.Gen.facts, Cert.Pre_in_range.Gen.facts,
    frame_kernel, frame_kernelIdeal, frame_reference, frame_reference_in_range, trivial, value⟩

end Cert.Proof

end
